-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v104) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x5120 : Shape := ⟨2, ![8192, 5120]⟩
abbrev S12 : Shape := ⟨1, ![12]⟩
abbrev S128x128 : Shape := ⟨2, ![128, 128]⟩
abbrev S256x256 : Shape := ⟨2, ![256, 256]⟩
abbrev S8192x2048 : Shape := ⟨2, ![8192, 2048]⟩
abbrev S_ : Shape := ⟨0, ![]⟩

class Facts : Prop where
  slices_S8192x5120_S8192x2048_0_0 : S8192x5120.Slices ![0, 0] S8192x2048
  bitsLt_bf16_f32 : FTy.bits .bf16 < FTy.bits .f32
  bcast_S_S8192x2048 : S_.BroadcastsInDim S8192x2048 (![] : Fin 0 → Fin S8192x2048.rank)
  bcast_S_S12 : S_.BroadcastsInDim S12 (![] : Fin 0 → Fin S12.rank)

variable [Facts]

def fn {F : FTy → Type} [FloatOps F] (main_arg0 : FVec F S8192x5120 .bf16) (main_arg1 : FVec F S12 .f32) (main_arg2 : FVec F S128x128 .f32) (main_arg3 : FVec F S128x128 .f32) (main_arg4 : FVec F S256x256 .f32) (main_arg5 : FVec F S256x256 .f32) : IVec S8192x2048 1 × IVec S12 1 :=
  let main_v0 : FVec F S8192x2048 .bf16 := (extractStridedSlice S8192x2048 ![0, 0] · slices_S8192x5120_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S12 .f32 := Host.absf main_arg1
  let main_cst_0 : FVec F S_ .f32 := constant S_ .f32 0x7F800000#32
  let main_v6 : FVec F S12 .f32 := broadcastInDim S12 ![] bcast_S_S12 main_cst_0
  let main_v7 : IVec S12 1 := cmpf .olt main_v5 main_v6
  (main_v4, main_v7)
-- ==== Kernel.lean ====
abbrev S8192x5120 : Shape := ⟨2, ![8192, 5120]⟩
abbrev S12 : Shape := ⟨1, ![12]⟩
abbrev S128x128 : Shape := ⟨2, ![128, 128]⟩
abbrev S256x256 : Shape := ⟨2, ![256, 256]⟩
abbrev S128x256 : Shape := ⟨2, ![128, 256]⟩
abbrev S256x512 : Shape := ⟨2, ![256, 512]⟩
abbrev S8192x2048 : Shape := ⟨2, ![8192, 2048]⟩
abbrev S256x5120 : Shape := ⟨2, ![256, 5120]⟩
abbrev S256x2048 : Shape := ⟨2, ![256, 2048]⟩
abbrev S256x128 : Shape := ⟨2, ![256, 128]⟩
abbrev S1 : Shape := ⟨1, ![1]⟩
abbrev S256 : Shape := ⟨1, ![256]⟩
abbrev S256x1 : Shape := ⟨2, ![256, 1]⟩
abbrev S512x512 : Shape := ⟨2, ![512, 512]⟩

abbrev nBuf : Space → Nat
  | .hbm => 12
  | .vmem => 6
  | .smem => 1
  | _ => 0

abbrev bufTy : (tb : Table) → Fin (tcTables nBuf tb) → BufTy
  | .hbm, ⟨0, _⟩ => ⟨S8192x5120, .bf16⟩
  | .hbm, ⟨1, _⟩ => ⟨S12, .f32⟩
  | .hbm, ⟨2, _⟩ => ⟨S128x128, .f32⟩
  | .hbm, ⟨3, _⟩ => ⟨S128x128, .f32⟩
  | .hbm, ⟨4, _⟩ => ⟨S256x256, .f32⟩
  | .hbm, ⟨5, _⟩ => ⟨S256x256, .f32⟩
  | .hbm, ⟨6, _⟩ => ⟨S128x256, .f32⟩
  | .hbm, ⟨7, _⟩ => ⟨S128x256, .bf16⟩
  | .hbm, ⟨8, _⟩ => ⟨S256x256, .f32⟩
  | .hbm, ⟨9, _⟩ => ⟨S256x512, .f32⟩
  | .hbm, ⟨10, _⟩ => ⟨S256x512, .bf16⟩
  | .hbm, ⟨11, _⟩ => ⟨S8192x2048, .bf16⟩
  | .local _ .vmem, ⟨0, _⟩ => ⟨S256x5120, .bf16⟩
  | .local _ .vmem, ⟨1, _⟩ => ⟨S256x5120, .bf16⟩
  | .local _ .vmem, ⟨2, _⟩ => ⟨S128x256, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .smem, ⟨0, _⟩ => ⟨S12, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8192x5120 : Shape := ⟨2, ![8192, 5120]⟩
abbrev S12 : Shape := ⟨1, ![12]⟩
abbrev S128x128 : Shape := ⟨2, ![128, 128]⟩
abbrev S256x256 : Shape := ⟨2, ![256, 256]⟩
abbrev S32x256x5120 : Shape := ⟨3, ![32, 256, 5120]⟩
abbrev S32x256x1536 : Shape := ⟨3, ![32, 256, 1536]⟩
abbrev S32x256x512 : Shape := ⟨3, ![32, 256, 512]⟩
abbrev S32x256x4x3x128 : Shape := ⟨5, ![32, 256, 4, 3, 128]⟩
abbrev S32x256x4x128 : Shape := ⟨4, ![32, 256, 4, 128]⟩
abbrev S4x3 : Shape := ⟨2, ![4, 3]⟩
abbrev S32x4x256x256x3 : Shape := ⟨5, ![32, 4, 256, 256, 3]⟩
abbrev S32x4x3x256x256 : Shape := ⟨5, ![32, 4, 3, 256, 256]⟩
abbrev S_ : Shape := ⟨0, ![]⟩
abbrev S1x4x3x1x1 : Shape := ⟨5, ![1, 4, 3, 1, 1]⟩
abbrev S32x4x3x256x1 : Shape := ⟨5, ![32, 4, 3, 256, 1]⟩
abbrev S32x4x3x256x257 : Shape := ⟨5, ![32, 4, 3, 256, 257]⟩
abbrev S32x4x3x256 : Shape := ⟨4, ![32, 4, 3, 256]⟩
abbrev S32x4x128x3x256 : Shape := ⟨5, ![32, 4, 128, 3, 256]⟩
abbrev S32x4x128x256 : Shape := ⟨4, ![32, 4, 128, 256]⟩
abbrev S32x256x2048 : Shape := ⟨3, ![32, 256, 2048]⟩
abbrev S8192x2048 : Shape := ⟨2, ![8192, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S12, .f32⟩
  | .hbm, ⟨2, _⟩ => ⟨S128x128, .f32⟩
  | .hbm, ⟨3, _⟩ => ⟨S128x128, .f32⟩
  | .hbm, ⟨4, _⟩ => ⟨S256x256, .f32⟩
  | .hbm, ⟨5, _⟩ => ⟨S256x256, .f32⟩
  | .hbm, ⟨6, _⟩ => ⟨S8192x5120, .f32⟩
  | .hbm, ⟨7, _⟩ => ⟨S32x256x5120, .f32⟩
  | .hbm, ⟨8, _⟩ => ⟨S32x256x1536, .f32⟩
  | .hbm, ⟨9, _⟩ => ⟨S32x256x512, .f32⟩
  | .hbm, ⟨10, _⟩ => ⟨S32x256x512, .f32⟩
  | .hbm, ⟨11, _⟩ => ⟨S32x256x1536, .f32⟩
  | .hbm, ⟨12, _⟩ => ⟨S32x256x512, .f32⟩
  | .hbm, ⟨13, _⟩ => ⟨S32x256x512, .f32⟩
  | .hbm, ⟨14, _⟩ => ⟨S32x256x4x3x128, .f32⟩
  | .hbm, ⟨15, _⟩ => ⟨S32x256x4x128, .f32⟩
  | .hbm, ⟨16, _⟩ => ⟨S32x256x4x128, .f32⟩
  | .hbm, ⟨17, _⟩ => ⟨S4x3, .f32⟩
  | .hbm, ⟨18, _⟩ => ⟨S32x4x256x256x3, .f32⟩
  | .hbm, ⟨19, _⟩ => ⟨S32x4x3x256x256, .f32⟩
  | .hbm, ⟨20, _⟩ => ⟨S_, .f32⟩
  | .hbm, ⟨21, _⟩ => ⟨S_, .f32⟩
  | .hbm, ⟨22, _⟩ => ⟨S32x4x3x256x256, .f32⟩
  | .hbm, ⟨23, _⟩ => ⟨S32x4x3x256x256, .f32⟩
  | .hbm, ⟨24, _⟩ => ⟨S1x4x3x1x1, .f32⟩
  | .hbm, ⟨25, _⟩ => ⟨S32x4x3x256x1, .f32⟩
  | .hbm, ⟨26, _⟩ => ⟨S32x4x3x256x257, .f32⟩
  | .hbm, ⟨27, _⟩ => ⟨S_, .f32⟩
  | .hbm, ⟨28, _⟩ => ⟨S32x4x3x256, .f32⟩
  | .hbm, ⟨29, _⟩ => ⟨S_, .f32⟩
  | .hbm, ⟨30, _⟩ => ⟨S32x4x3x256, .f32⟩
  | .hbm, ⟨31, _⟩ => ⟨S32x4x3x256, .f32⟩
  | .hbm, ⟨32, _⟩ => ⟨S32x4x3x256x1, .f32⟩
  | .hbm, ⟨33, _⟩ => ⟨S32x4x3x256x257, .f32⟩
  | .hbm, ⟨34, _⟩ => ⟨S32x4x3x256x257, .f32⟩
  | .hbm, ⟨35, _⟩ => ⟨S32x4x3x256x257, .f32⟩
  | .hbm, ⟨36, _⟩ => ⟨S_, .f32⟩
  | .hbm, ⟨37, _⟩ => ⟨S32x4x3x256, .f32⟩
  | .hbm, ⟨38, _⟩ => ⟨S32x4x3x256x1, .f32⟩
  | .hbm, ⟨39, _⟩ => ⟨S32x4x3x256x257, .f32⟩
  | .hbm, ⟨40, _⟩ => ⟨S32x4x3x256x257, .f32⟩
  | .hbm, ⟨41, _⟩ => ⟨S32x4x3x256x256, .f32⟩
  | .hbm, ⟨42, _⟩ => ⟨S32x4x128x3x256, .f32⟩
  | .hbm, ⟨43, _⟩ => ⟨S32x256x4x3x128, .f32⟩
  | .hbm, ⟨44, _⟩ => ⟨S32x256x1536, .f32⟩
  | .hbm, ⟨45, _⟩ => ⟨S32x256x1536, .f32⟩
  | .hbm, ⟨46, _⟩ => ⟨S32x256x1536, .f32⟩
  | .hbm, ⟨47, _⟩ => ⟨S_, .f32⟩
  | .hbm, ⟨48, _⟩ => ⟨S32x256x1536, .f32⟩
  | .hbm, ⟨49, _⟩ => ⟨S32x256x1536, .f32⟩
  | .hbm, ⟨50, _⟩ => ⟨S_, .f32⟩
  | .hbm, ⟨51, _⟩ => ⟨S32x256x1536, .f32⟩
  | .hbm, ⟨52, _⟩ => ⟨S32x256x1536, .f32⟩
  | .hbm, ⟨53, _⟩ => ⟨S32x256x1536, .f32⟩
  | .hbm, ⟨54, _⟩ => ⟨S32x256x1536, .f32⟩
  | .hbm, ⟨55, _⟩ => ⟨S32x256x512, .f32⟩
  | .hbm, ⟨56, _⟩ => ⟨S32x256x512, .f32⟩
  | .hbm, ⟨57, _⟩ => ⟨S_, .f32⟩
  | .hbm, ⟨58, _⟩ => ⟨S32x256x512, .f32⟩
  | .hbm, ⟨59, _⟩ => ⟨S32x256x512, .f32⟩
  | .hbm, ⟨60, _⟩ => ⟨S_, .f32⟩
  | .hbm, ⟨61, _⟩ => ⟨S32x256x512, .f32⟩
  | .hbm, ⟨62, _⟩ => ⟨S32x256x512, .f32⟩
  | .hbm, ⟨63, _⟩ => ⟨S32x256x512, .f32⟩
  | .hbm, ⟨64, _⟩ => ⟨S32x256x4x128, .f32⟩
  | .hbm, ⟨65, _⟩ => ⟨S32x256x4x128, .f32⟩
  | .hbm, ⟨66, _⟩ => ⟨S32x256x4x128, .f32⟩
  | .hbm, ⟨67, _⟩ => ⟨S32x256x4x128, .f32⟩
  | .hbm, ⟨68, _⟩ => ⟨S32x4x128x256, .f32⟩
  | .hbm, ⟨69, _⟩ => ⟨S32x256x4x128, .f32⟩
  | .hbm, ⟨70, _⟩ => ⟨S32x4x128x256, .f32⟩
  | .hbm, ⟨71, _⟩ => ⟨S32x256x4x128, .f32⟩
  | .hbm, ⟨72, _⟩ => ⟨S32x256x4x128, .f32⟩
  | .hbm, ⟨73, _⟩ => ⟨S32x256x512, .f32⟩
  | .hbm, ⟨74, _⟩ => ⟨S32x256x512, .f32⟩
  | .hbm, ⟨75, _⟩ => ⟨S32x256x2048, .f32⟩
  | .hbm, ⟨76, _⟩ => ⟨S32x256x2048, .bf16⟩
  | .hbm, ⟨77, _⟩ => ⟨S8192x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Kernel2.lean ====
abbrev S8192x2048 : Shape := ⟨2, ![8192, 2048]⟩
abbrev S4x1x1x6144 : Shape := ⟨4, ![4, 1, 1, 6144]⟩
abbrev S4x2048 : Shape := ⟨2, ![4, 2048]⟩
abbrev S4x2048x5120 : Shape := ⟨3, ![4, 2048, 5120]⟩
abbrev S4x1x2048 : Shape := ⟨3, ![4, 1, 2048]⟩
abbrev S8192x5120 : Shape := ⟨2, ![8192, 5120]⟩
abbrev S8192x512 : Shape := ⟨2, ![8192, 512]⟩
abbrev S512x2048 : Shape := ⟨2, ![512, 2048]⟩
abbrev S1x1x1x6144 : Shape := ⟨4, ![1, 1, 1, 6144]⟩
abbrev S1x1x2048 : Shape := ⟨3, ![1, 1, 2048]⟩
abbrev S1x2048x5120 : Shape := ⟨3, ![1, 2048, 5120]⟩
abbrev S512x5120 : Shape := ⟨2, ![512, 5120]⟩
abbrev S512x512 : Shape := ⟨2, ![512, 512]⟩
abbrev S1x1x1x2048 : Shape := ⟨4, ![1, 1, 1, 2048]⟩
abbrev S1x2048 : Shape := ⟨2, ![1, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x1x1x6144, .f32⟩
  | .hbm, ⟨2, _⟩ => ⟨S4x2048, .f32⟩
  | .hbm, ⟨3, _⟩ => ⟨S4x2048x5120, .f32⟩
  | .hbm, ⟨4, _⟩ => ⟨S4x2048x5120, .bf16⟩
  | .hbm, ⟨5, _⟩ => ⟨S4x1x2048, .f32⟩
  | .hbm, ⟨6, _⟩ => ⟨S8192x5120, .bf16⟩
  | .hbm, ⟨7, _⟩ => ⟨S8192x512, .f32⟩
  | .hbm, ⟨8, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1x2048, .f32⟩
  | .local _ .vmem, ⟨5, _⟩ => ⟨S1x2048x5120, .bf16⟩
  | .local _ .vmem, ⟨6, _⟩ => ⟨S512x5120, .bf16⟩
  | .local _ .vmem, ⟨7, _⟩ => ⟨S512x5120, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x2048 : Shape := ⟨2, ![8192, 2048]⟩
abbrev S4x1x1x6144 : Shape := ⟨4, ![4, 1, 1, 6144]⟩
abbrev S4x2048 : Shape := ⟨2, ![4, 2048]⟩
abbrev S4x2048x5120 : Shape := ⟨3, ![4, 2048, 5120]⟩
abbrev S1x1x1x6144 : Shape := ⟨4, ![1, 1, 1, 6144]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5120 : Shape := ⟨3, ![1, 2048, 5120]⟩
abbrev S2048x5120 : Shape := ⟨2, ![2048, 5120]⟩
abbrev S8192x5120 : Shape := ⟨2, ![8192, 5120]⟩
abbrev S8192x1536 : Shape := ⟨2, ![8192, 1536]⟩
abbrev S8192x512 : Shape := ⟨2, ![8192, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x1x6144, .f32⟩
  | .hbm, ⟨2, _⟩ => ⟨S4x2048, .f32⟩
  | .hbm, ⟨3, _⟩ => ⟨S4x2048x5120, .f32⟩
  | .hbm, ⟨4, _⟩ => ⟨S1x1x1x6144, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S1x2048x5120, .f32⟩
  | .hbm, ⟨35, _⟩ => ⟨S2048x5120, .f32⟩
  | .hbm, ⟨36, _⟩ => ⟨S8192x5120, .f32⟩
  | .hbm, ⟨37, _⟩ => ⟨S8192x1536, .f32⟩
  | .hbm, ⟨38, _⟩ => ⟨S8192x512, .f32⟩
  | .hbm, ⟨39, _⟩ => ⟨S8192x512, .f32⟩
  | .hbm, ⟨40, _⟩ => ⟨S8192x1536, .f32⟩
  | .hbm, ⟨41, _⟩ => ⟨S8192x512, .f32⟩
  | .hbm, ⟨42, _⟩ => ⟨S8192x512, .f32⟩
  | .hbm, ⟨43, _⟩ => ⟨S8192x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel3.lean ====
abbrev S4096x1536 : Shape := ⟨2, ![4096, 1536]⟩
abbrev S4096x512 : Shape := ⟨2, ![4096, 512]⟩
abbrev S4096x2048 : Shape := ⟨2, ![4096, 2048]⟩
abbrev S4x2x1x6144 : Shape := ⟨4, ![4, 2, 1, 6144]⟩
abbrev S4x2048 : Shape := ⟨2, ![4, 2048]⟩
abbrev S4x2048x2048 : Shape := ⟨3, ![4, 2048, 2048]⟩
abbrev S4x1x2048 : Shape := ⟨3, ![4, 1, 2048]⟩
abbrev S512x1536 : Shape := ⟨2, ![512, 1536]⟩
abbrev S512x512 : Shape := ⟨2, ![512, 512]⟩
abbrev S1x1536x2048 : Shape := ⟨3, ![1, 1536, 2048]⟩
abbrev S1x512x2048 : Shape := ⟨3, ![1, 512, 2048]⟩
abbrev S512x2048 : Shape := ⟨2, ![512, 2048]⟩
abbrev S1x1x1x6144 : Shape := ⟨4, ![1, 1, 1, 6144]⟩
abbrev S1x1x2048 : Shape := ⟨3, ![1, 1, 2048]⟩
abbrev S1536x2048 : Shape := ⟨2, ![1536, 2048]⟩
abbrev S512 : Shape := ⟨1, ![512]⟩
abbrev S512x1 : Shape := ⟨2, ![512, 1]⟩
abbrev S1x2048 : Shape := ⟨2, ![1, 2048]⟩
abbrev S1x1x1x2048 : Shape := ⟨4, ![1, 1, 1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x2048, .f32⟩
  | .hbm, ⟨3, _⟩ => ⟨S4x2x1x6144, .f32⟩
  | .hbm, ⟨4, _⟩ => ⟨S4x2048, .f32⟩
  | .hbm, ⟨5, _⟩ => ⟨S4x2048x2048, .f32⟩
  | .hbm, ⟨6, _⟩ => ⟨S4x2048x2048, .bf16⟩
  | .hbm, ⟨7, _⟩ => ⟨S4x1x2048, .f32⟩
  | .hbm, ⟨8, _⟩ => ⟨S4096x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1x1536x2048, .bf16⟩
  | .local _ .vmem, ⟨5, _⟩ => ⟨S1x512x2048, .bf16⟩
  | .local _ .vmem, ⟨6, _⟩ => ⟨S512x2048, .f32⟩
  | .local _ .vmem, ⟨7, _⟩ => ⟨S512x2048, .f32⟩
  | .local _ .vmem, ⟨8, _⟩ => ⟨S1x1x1x6144, .f32⟩
  | .local _ .vmem, ⟨9, _⟩ => ⟨S1x1x1x6144, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x1536 : Shape := ⟨2, ![4096, 1536]⟩
abbrev S4096x512 : Shape := ⟨2, ![4096, 512]⟩
abbrev S4096x2048 : Shape := ⟨2, ![4096, 2048]⟩
abbrev S4x2x1x6144 : Shape := ⟨4, ![4, 2, 1, 6144]⟩
abbrev S4x2048 : Shape := ⟨2, ![4, 2048]⟩
abbrev S4x2048x2048 : Shape := ⟨3, ![4, 2048, 2048]⟩
abbrev S1x2x1x6144 : Shape := ⟨4, ![1, 2, 1, 6144]⟩
abbrev S2x1x6144 : Shape := ⟨3, ![2, 1, 6144]⟩
abbrev S2x1x2048 : Shape := ⟨3, ![2, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2x2048x2048 : Shape := ⟨3, ![2, 2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x2048, .f32⟩
  | .hbm, ⟨3, _⟩ => ⟨S4x2x1x6144, .f32⟩
  | .hbm, ⟨4, _⟩ => ⟨S4x2048, .f32⟩
  | .hbm, ⟨5, _⟩ => ⟨S4x2048x2048, .f32⟩
  | .hbm, ⟨6, _⟩ => ⟨S1x2x1x6144, .f32⟩
  | .hbm, ⟨7, _⟩ => ⟨S2x1x6144, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S4096x1536, .f32⟩
  | .hbm, ⟨12, _⟩ => ⟨S4096x512, .f32⟩
  | .hbm, ⟨13, _⟩ => ⟨S4096x2048, .f32⟩
  | .hbm, ⟨14, _⟩ => ⟨S1x2048x2048, .f32⟩
  | .hbm, ⟨15, _⟩ => ⟨S2048x2048, .f32⟩
  | .hbm, ⟨16, _⟩ => ⟨S4096x2048, .f32⟩
  | .hbm, ⟨17, _⟩ => ⟨S1x2048, .f32⟩
  | .hbm, ⟨18, _⟩ => ⟨S2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S4096x2048, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S8192x2048 : Shape := ⟨2, ![8192, 2048]⟩
abbrev S4x1x1x6144 : Shape := ⟨4, ![4, 1, 1, 6144]⟩
abbrev S4x2048 : Shape := ⟨2, ![4, 2048]⟩
abbrev S4x2048x2048 : Shape := ⟨3, ![4, 2048, 2048]⟩
abbrev S4x1x2048 : Shape := ⟨3, ![4, 1, 2048]⟩
abbrev S512x2048 : Shape := ⟨2, ![512, 2048]⟩
abbrev S1x2048x2048 : Shape := ⟨3, ![1, 2048, 2048]⟩
abbrev S1x1x1x6144 : Shape := ⟨4, ![1, 1, 1, 6144]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩
abbrev S1x2048 : Shape := ⟨2, ![1, 2048]⟩
abbrev S1x1x1x2048 : Shape := ⟨4, ![1, 1, 1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x1x1x6144, .f32⟩
  | .hbm, ⟨3, _⟩ => ⟨S4x2048, .f32⟩
  | .hbm, ⟨4, _⟩ => ⟨S4x2048x2048, .f32⟩
  | .hbm, ⟨5, _⟩ => ⟨S4x2048x2048, .bf16⟩
  | .hbm, ⟨6, _⟩ => ⟨S4x1x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x6144, .f32⟩
  | .local _ .vmem, ⟨6, _⟩ => ⟨S1x1x1x6144, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![c3_i32.toNat, v16.toNat, c0_i32_4.toNat, c0_i32_5.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S4x1x1x6144 : Shape := ⟨4, ![4, 1, 1, 6144]⟩
abbrev S4x2048 : Shape := ⟨2, ![4, 2048]⟩
abbrev S4x2048x2048 : Shape := ⟨3, ![4, 2048, 2048]⟩
abbrev S1x1x1x6144 : Shape := ⟨4, ![1, 1, 1, 6144]⟩
abbrev S1x6144 : Shape := ⟨2, ![1, 6144]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x1x1x6144, .f32⟩
  | .hbm, ⟨3, _⟩ => ⟨S4x2048, .f32⟩
  | .hbm, ⟨4, _⟩ => ⟨S4x2048x2048, .f32⟩
  | .hbm, ⟨5, _⟩ => ⟨S1x1x1x6144, .f32⟩
  | .hbm, ⟨6, _⟩ => ⟨S1x6144, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S1x2048x2048, .f32⟩
  | .hbm, ⟨12, _⟩ => ⟨S2048x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S8192x5120 : Shape := ⟨2, ![8192, 5120]⟩
abbrev S2x4x256x256 : Shape := ⟨4, ![2, 4, 256, 256]⟩
abbrev S2x1024 : Shape := ⟨2, ![2, 1024]⟩
abbrev S2x4x128x128 : Shape := ⟨4, ![2, 4, 128, 128]⟩
abbrev S2x4x128 : Shape := ⟨3, ![2, 4, 128]⟩
abbrev S2x128x4 : Shape := ⟨3, ![2, 128, 4]⟩
abbrev S2x1x1024 : Shape := ⟨3, ![2, 1, 1024]⟩
abbrev S8192x2048 : Shape := ⟨2, ![8192, 2048]⟩
abbrev S256x1024 : Shape := ⟨2, ![256, 1024]⟩
abbrev S1x4x256x256 : Shape := ⟨4, ![1, 4, 256, 256]⟩
abbrev S1x1x1024 : Shape := ⟨3, ![1, 1, 1024]⟩
abbrev S1x4x128x128 : Shape := ⟨4, ![1, 4, 128, 128]⟩
abbrev S1x128x4 : Shape := ⟨3, ![1, 128, 4]⟩
abbrev S256x2048 : Shape := ⟨2, ![256, 2048]⟩
abbrev S256x256 : Shape := ⟨2, ![256, 256]⟩
abbrev S256x1 : Shape := ⟨2, ![256, 1]⟩
abbrev S1x1x256x256 : Shape := ⟨4, ![1, 1, 256, 256]⟩
abbrev S1x1x256 : Shape := ⟨3, ![1, 1, 256]⟩
abbrev S1x256 : Shape := ⟨2, ![1, 256]⟩
abbrev S256 : Shape := ⟨1, ![256]⟩
abbrev S1x128x1 : Shape := ⟨3, ![1, 128, 1]⟩
abbrev S128x1 : Shape := ⟨2, ![128, 1]⟩
abbrev S1x1x128x128 : Shape := ⟨4, ![1, 1, 128, 128]⟩
abbrev S128x128 : Shape := ⟨2, ![128, 128]⟩
abbrev S128x256 : Shape := ⟨2, ![128, 256]⟩

abbrev nBuf : Space → Nat
  | .hbm => 12
  | .vmem => 17
  | .smem => 0
  | _ => 0

abbrev bufTy : (tb : Table) → Fin (tcTables nBuf tb) → BufTy
  | .hbm, ⟨0, _⟩ => ⟨S8192x5120, .bf16⟩
  | .hbm, ⟨1, _⟩ => ⟨S2x4x256x256, .f32⟩
  | .hbm, ⟨2, _⟩ => ⟨S2x1024, .f32⟩
  | .hbm, ⟨3, _⟩ => ⟨S2x1024, .f32⟩
  | .hbm, ⟨4, _⟩ => ⟨S2x4x128x128, .f32⟩
  | .hbm, ⟨5, _⟩ => ⟨S2x4x128, .f32⟩
  | .hbm, ⟨6, _⟩ => ⟨S2x4x256x256, .bf16⟩
  | .hbm, ⟨7, _⟩ => ⟨S2x4x128x128, .bf16⟩
  | .hbm, ⟨8, _⟩ => ⟨S2x128x4, .f32⟩
  | .hbm, ⟨9, _⟩ => ⟨S2x1x1024, .f32⟩
  | .hbm, ⟨10, _⟩ => ⟨S2x1x1024, .f32⟩
  | .hbm, ⟨11, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x4x256x256, .bf16⟩
  | .local _ .vmem, ⟨11, _⟩ => ⟨S1x1x1024, .f32⟩
  | .local _ .vmem, ⟨12, _⟩ => ⟨S1x1x1024, .f32⟩
  | .local _ .vmem, ⟨13, _⟩ => ⟨S1x4x128x128, .bf16⟩
  | .local _ .vmem, ⟨14, _⟩ => ⟨S1x128x4, .f32⟩
  | .local _ .vmem, ⟨15, _⟩ => ⟨S256x2048, .bf16⟩
  | .local _ .vmem, ⟨16, _⟩ => ⟨S256x2048, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 (i : grid0.Coords) : BitVec 32 :=
  let c0_i32_1 : BitVec 32 := 0#32
  let c0_i32 : BitVec 32 := 0#32
  let arg1 : BitVec 32 := BitVec.ofNat 32 (i 1).val
  let c256_i32_0 : BitVec 32 := 256#32
  let v2 : BitVec 32 := Scalar.muli arg1 c256_i32_0
  let c128_i32 : BitVec 32 := 128#32
  let v3 : BitVec 32 := Scalar.subi v2 c128_i32
  let v4 : BitVec 32 := Scalar.maxsi c0_i32 v3
  let v5 : BitVec 32 := Scalar.minsi c0_i32_1 v4
  v5
def k0_off1 (i : grid0.Coords) : Fin 2 → Nat :=
  let c0_i32_1 : BitVec 32 := 0#32
  let c0_i32 : BitVec 32 := 0#32
  let arg1 : BitVec 32 := BitVec.ofNat 32 (i 1).val
  let c256_i32_0 : BitVec 32 := 256#32
  let v2 : BitVec 32 := Scalar.muli arg1 c256_i32_0
  let c128_i32 : BitVec 32 := 128#32
  let v3 : BitVec 32 := Scalar.subi v2 c128_i32
  let v4 : BitVec 32 := Scalar.maxsi c0_i32 v3
  let v5 : BitVec 32 := Scalar.minsi c0_i32_1 v4
  let v6 : BitVec 32 := v5
  let v25 : Index := Scalar.indexCast v6
  let c0 : Index := 0#32
  ![v25.toNat, 0]
def k0_off2 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v40 : Index := Scalar.indexCast v1
  let c0_8 : Index := 0#32
  ![v40.toNat, 0]
def k0_off3 (i : grid0.Coords) : Fin 2 → Nat :=
  let c0_i32_1 : BitVec 32 := 0#32
  let c0_i32 : BitVec 32 := 0#32
  let arg1 : BitVec 32 := BitVec.ofNat 32 (i 1).val
  let c256_i32_0 : BitVec 32 := 256#32
  let v2 : BitVec 32 := Scalar.muli arg1 c256_i32_0
  let c128_i32 : BitVec 32 := 128#32
  let v3 : BitVec 32 := Scalar.subi v2 c128_i32
  let v4 : BitVec 32 := Scalar.maxsi c0_i32 v3
  let v5 : BitVec 32 := Scalar.minsi c0_i32_1 v4
  let v6 : BitVec 32 := v5
  let v72 : Index := Scalar.indexCast v6
  let c256 : Index := 256#32
  ![v72.toNat, 256]
def k0_off4 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v87 : Index := Scalar.indexCast v1
  let c256_30 : Index := 256#32
  ![v87.toNat, 256]
def k0_off5 (i : grid0.Coords) : Fin 2 → Nat :=
  let c0_i32_1 : BitVec 32 := 0#32
  let c0_i32 : BitVec 32 := 0#32
  let arg1 : BitVec 32 := BitVec.ofNat 32 (i 1).val
  let c256_i32_0 : BitVec 32 := 256#32
  let v2 : BitVec 32 := Scalar.muli arg1 c256_i32_0
  let c128_i32 : BitVec 32 := 128#32
  let v3 : BitVec 32 := Scalar.subi v2 c128_i32
  let v4 : BitVec 32 := Scalar.maxsi c0_i32 v3
  let v5 : BitVec 32 := Scalar.minsi c0_i32_1 v4
  let v6 : BitVec 32 := v5
  let v119 : Index := Scalar.indexCast v6
  let c512 : Index := 512#32
  ![v119.toNat, 512]
def k0_off6 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v134 : Index := Scalar.indexCast v1
  let c512_51 : Index := 512#32
  ![v134.toNat, 512]
def k0_off7 (i : grid0.Coords) : Fin 2 → Nat :=
  let c0_i32_1 : BitVec 32 := 0#32
  let c0_i32 : BitVec 32 := 0#32
  let arg1 : BitVec 32 := BitVec.ofNat 32 (i 1).val
  let c256_i32_0 : BitVec 32 := 256#32
  let v2 : BitVec 32 := Scalar.muli arg1 c256_i32_0
  let c128_i32 : BitVec 32 := 128#32
  let v3 : BitVec 32 := Scalar.subi v2 c128_i32
  let v4 : BitVec 32 := Scalar.maxsi c0_i32 v3
  let v5 : BitVec 32 := Scalar.minsi c0_i32_1 v4
  let v6 : BitVec 32 := v5
  let v166 : Index := Scalar.indexCast v6
  let c768 : Index := 768#32
  ![v166.toNat, 768]
def k0_off8 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v181 : Index := Scalar.indexCast v1
  let c768_72 : Index := 768#32
  ![v181.toNat, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8192x5120 : Shape := ⟨2, ![8192, 5120]⟩
abbrev S2x4x256x256 : Shape := ⟨4, ![2, 4, 256, 256]⟩
abbrev S2x1024 : Shape := ⟨2, ![2, 1024]⟩
abbrev S2x4x128x128 : Shape := ⟨4, ![2, 4, 128, 128]⟩
abbrev S2x4x128 : Shape := ⟨3, ![2, 4, 128]⟩
abbrev S32x256x5120 : Shape := ⟨3, ![32, 256, 5120]⟩
abbrev S32x256x1024 : Shape := ⟨3, ![32, 256, 1024]⟩
abbrev S_ : Shape := ⟨0, ![]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S32x256x4x256 : Shape := ⟨4, ![32, 256, 4, 256]⟩
abbrev S256 : Shape := ⟨1, ![256]⟩
abbrev S1 : Shape := ⟨1, ![1]⟩
abbrev S4 : Shape := ⟨1, ![4]⟩
abbrev S256x1 : Shape := ⟨2, ![256, 1]⟩
abbrev S1x4 : Shape := ⟨2, ![1, 4]⟩
abbrev S256x4 : Shape := ⟨2, ![256, 4]⟩
abbrev S1x256x1 : Shape := ⟨3, ![1, 256, 1]⟩
abbrev S256x1x4 : Shape := ⟨3, ![256, 1, 4]⟩
abbrev S256x256x4 : Shape := ⟨3, ![256, 256, 4]⟩
abbrev S1x256x256x4x1 : Shape := ⟨5, ![1, 256, 256, 4, 1]⟩
abbrev S32x1x256x4x256 : Shape := ⟨5, ![32, 1, 256, 4, 256]⟩
abbrev S32x256x256x4x256 : Shape := ⟨5, ![32, 256, 256, 4, 256]⟩
abbrev S256x4x1 : Shape := ⟨3, ![256, 4, 1]⟩
abbrev S1x256x4x1 : Shape := ⟨4, ![1, 256, 4, 1]⟩
abbrev S4x256x32x256 : Shape := ⟨4, ![4, 256, 32, 256]⟩
abbrev S1x1x1024 : Shape := ⟨3, ![1, 1, 1024]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S32x256x4 : Shape := ⟨3, ![32, 256, 4]⟩
abbrev S32x256x4x1 : Shape := ⟨4, ![32, 256, 4, 1]⟩
abbrev S4x256 : Shape := ⟨2, ![4, 256]⟩
abbrev S1x1x4x256 : Shape := ⟨4, ![1, 1, 4, 256]⟩
abbrev S32x2x128x4x256 : Shape := ⟨5, ![32, 2, 128, 4, 256]⟩
abbrev S4x32x2x256x128 : Shape := ⟨5, ![4, 32, 2, 256, 128]⟩
abbrev S128x4 : Shape := ⟨2, ![128, 4]⟩
abbrev S1x1x128x4x1 : Shape := ⟨5, ![1, 1, 128, 4, 1]⟩
abbrev S32x256x2048 : Shape := ⟨3, ![32, 256, 2048]⟩
abbrev S8192x2048 : Shape := ⟨2, ![8192, 2048]⟩

abbrev nBuf : Space → Nat
  | .hbm => 156
  | .vmem => 0
  | .smem => 0
  | _ => 0

abbrev hbmTy0_0 (i : Nat) : BufTy := match i % 128 with
  | 0 => ⟨S8192x5120, .bf16⟩
  | 1 => ⟨S2x4x256x256, .f32⟩
  | 2 => ⟨S2x1024, .f32⟩
  | 3 => ⟨S2x1024, .f32⟩
  | 4 => ⟨S2x4x128x128, .f32⟩
  | 5 => ⟨S2x4x128, .f32⟩
  | 6 => ⟨S8192x5120, .f32⟩
  | 7 => ⟨S32x256x5120, .f32⟩
  | 8 => ⟨S32x256x1024, .f32⟩
  | 9 => ⟨S32x256x1024, .f32⟩
  | 10 => ⟨S32x256x1024, .f32⟩
  | 11 => ⟨S32x256x1024, .f32⟩
  | 12 => ⟨S32x256x1024, .f32⟩
  | 13 => ⟨S32x256x1024, .f32⟩
  | 14 => ⟨S32x256x1024, .f32⟩
  | 15 => ⟨S_, .f32⟩
  | 16 => ⟨S32x256x1024, .f32⟩
  | 17 => ⟨S32x256x1024, .f32⟩
  | 18 => ⟨S_, .f32⟩
  | 19 => ⟨S32x256x1024, .f32⟩
  | 20 => ⟨S32x256x1024, .f32⟩
  | 21 => ⟨S32x256x1024, .f32⟩
  | 22 => ⟨S1x4x256x256, .f32⟩
  | 23 => ⟨S4x256x256, .f32⟩
  | 24 => ⟨S1x1024, .f32⟩
  | 25 => ⟨S1024, .f32⟩
  | 26 => ⟨S32x256x4x256, .f32⟩
  | 27 => ⟨S256, .i32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S_, .i32⟩
  | 35 => ⟨S1, .i32⟩
  | 36 => ⟨S4, .i32⟩
  | 37 => ⟨S256x1, .i32⟩
  | 38 => ⟨S4, .i32⟩
  | 39 => ⟨S1x4, .i32⟩
  | 40 => ⟨S256x4, .i32⟩
  | 41 => ⟨S256x4, .i32⟩
  | 42 => ⟨S256x4, .i32⟩
  | 43 => ⟨S_, .i32⟩
  | 44 => ⟨S_, .i32⟩
  | 45 => ⟨S_, .i32⟩
  | 46 => ⟨S256x4, .i32⟩
  | 47 => ⟨S256x4, .i32⟩
  | 48 => ⟨S_, .i32⟩
  | 49 => ⟨S256x4, .i32⟩
  | 50 => ⟨S256x4, .i32⟩
  | 51 => ⟨S256x1, .i32⟩
  | 52 => ⟨S4, .i32⟩
  | 53 => ⟨S1x4, .i32⟩
  | 54 => ⟨S256x4, .i32⟩
  | 55 => ⟨S256x4, .i32⟩
  | 56 => ⟨S256x4, .i32⟩
  | 57 => ⟨S_, .i32⟩
  | 58 => ⟨S_, .i32⟩
  | 59 => ⟨S_, .i32⟩
  | 60 => ⟨S256x4, .i32⟩
  | 61 => ⟨S256x4, .i32⟩
  | 62 => ⟨S_, .i32⟩
  | 63 => ⟨S256x4, .i32⟩
  | 64 => ⟨S256x4, .i32⟩
  | 65 => ⟨S1x256x1, .i32⟩
  | 66 => ⟨S256x1x4, .i32⟩
  | 67 => ⟨S256x256x4, .i32⟩
  | 68 => ⟨S256x256x4, .i32⟩
  | 69 => ⟨S256x256x4, .i1⟩
  | 70 => ⟨S1x256x1, .i32⟩
  | 71 => ⟨S256x1x4, .i32⟩
  | 72 => ⟨S256x256x4, .i32⟩
  | 73 => ⟨S256x256x4, .i32⟩
  | 74 => ⟨S256x256x4, .i1⟩
  | 75 => ⟨S256x256x4, .i1⟩
  | 76 => ⟨S1x256x256x4x1, .i1⟩
  | 77 => ⟨S32x1x256x4x256, .f32⟩
  | 78 => ⟨S_, .f32⟩
  | 79 => ⟨S_, .f32⟩
  | 80 => ⟨S32x256x256x4x256, .i1⟩
  | 81 => ⟨S32x256x256x4x256, .f32⟩
  | 82 => ⟨S32x256x256x4x256, .f32⟩
  | 83 => ⟨S32x256x256x4x256, .f32⟩
  | 84 => ⟨S_, .f32⟩
  | 85 => ⟨S32x256x4x256, .f32⟩
  | 86 => ⟨S256x4, .i32⟩
  | 87 => ⟨S256x4, .f32⟩
  | 88 => ⟨S256x4x1, .f32⟩
  | 89 => ⟨S1x256x4x1, .f32⟩
  | 90 => ⟨S32x256x4x256, .f32⟩
  | 91 => ⟨S32x256x4x256, .f32⟩
  | 92 => ⟨S32x256x4x256, .f32⟩
  | 93 => ⟨S4x256x32x256, .f32⟩
  | 94 => ⟨S32x256x4x256, .f32⟩
  | 95 => ⟨S32x256x1024, .f32⟩
  | 96 => ⟨S1x1x1024, .f32⟩
  | 97 => ⟨S32x256x1024, .f32⟩
  | 98 => ⟨S32x256x1024, .f32⟩
  | 99 => ⟨S32x256x1024, .f32⟩
  | 100 => ⟨S32x256x1024, .f32⟩
  | 101 => ⟨S32x256x1024, .f32⟩
  | 102 => ⟨S_, .f32⟩
  | 103 => ⟨S32x256x1024, .f32⟩
  | 104 => ⟨S32x256x1024, .f32⟩
  | 105 => ⟨S_, .f32⟩
  | 106 => ⟨S32x256x1024, .f32⟩
  | 107 => ⟨S32x256x1024, .f32⟩
  | 108 => ⟨S32x256x1024, .f32⟩
  | 109 => ⟨S1x1024, .f32⟩
  | 110 => ⟨S1024, .f32⟩
  | 111 => ⟨S1x4x128x128, .f32⟩
  | 112 => ⟨S4x128x128, .f32⟩
  | 113 => ⟨S1x4x128, .f32⟩
  | 114 => ⟨S4x128, .f32⟩
  | 115 => ⟨S32x256x4x256, .f32⟩
  | 116 => ⟨S_, .f32⟩
  | 117 => ⟨S32x256x4, .f32⟩
  | 118 => ⟨S32x256x4x1, .f32⟩
  | 119 => ⟨S_, .f32⟩
  | 120 => ⟨S32x256x4x1, .f32⟩
  | 121 => ⟨S32x256x4x1, .f32⟩
  | 122 => ⟨S32x256x4x256, .f32⟩
  | 123 => ⟨S32x256x4x256, .f32⟩
  | 124 => ⟨S32x256x4x256, .f32⟩
  | 125 => ⟨S_, .f32⟩
  | 126 => ⟨S32x256x4, .f32⟩
  | 127 => ⟨S32x256x4x1, .f32⟩
  | _ => ⟨S8192x5120, .bf16⟩

abbrev hbmTy0_1 (i : Nat) : BufTy := match i % 128 with
  | 0 => ⟨S_, .f32⟩
  | 1 => ⟨S32x256x4x1, .f32⟩
  | 2 => ⟨S32x256x4x1, .f32⟩
  | 3 => ⟨S32x256x4x256, .f32⟩
  | 4 => ⟨S32x256x4x256, .f32⟩
  | 5 => ⟨S_, .f32⟩
  | 6 => ⟨S32x256x4x1, .f32⟩
  | 7 => ⟨S32x256x4x1, .f32⟩
  | 8 => ⟨S32x256x4x1, .f32⟩
  | 9 => ⟨S32x256x4x256, .f32⟩
  | 10 => ⟨S32x256x4x256, .f32⟩
  | 11 => ⟨S4x256, .f32⟩
  | 12 => ⟨S1x1x4x256, .f32⟩
  | 13 => ⟨S32x256x4x256, .f32⟩
  | 14 => ⟨S32x256x4x256, .f32⟩
  | 15 => ⟨S32x2x128x4x256, .f32⟩
  | 16 => ⟨S4x32x2x256x128, .f32⟩
  | 17 => ⟨S32x2x128x4x256, .f32⟩
  | 18 => ⟨S128x4, .f32⟩
  | 19 => ⟨S1x1x128x4x1, .f32⟩
  | 20 => ⟨S32x2x128x4x256, .f32⟩
  | 21 => ⟨S32x2x128x4x256, .f32⟩
  | 22 => ⟨S32x256x1024, .f32⟩
  | 23 => ⟨S32x256x1024, .f32⟩
  | 24 => ⟨S32x256x1024, .f32⟩
  | 25 => ⟨S32x256x2048, .f32⟩
  | 26 => ⟨S32x256x2048, .bf16⟩
  | 27 => ⟨S8192x2048, .bf16⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_c_6 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_v46 : Ref sig .tc := ⟨.hbm, 83, rfl⟩
abbrev main_cst_7 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_8 : Ref sig .tc := ⟨.hbm, 116, rfl⟩
abbrev main_v70 : Ref sig .tc := ⟨.hbm, 117, rfl⟩
abbrev main_v71 : Ref sig .tc := ⟨.hbm, 118, rfl⟩
abbrev main_cst_9 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_10 : Ref sig .tc := ⟨.hbm, 125, rfl⟩
abbrev main_v77 : Ref sig .tc := ⟨.hbm, 126, rfl⟩
abbrev main_v78 : Ref sig .tc := ⟨.hbm, 127, rfl⟩
abbrev main_cst_11 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_12 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩

abbrev nD : Nat := 1
abbrev τ : Topo := Topo.v7x

variable {F : FTy → Type} [FloatOps F]
-- ==== Kernel6.lean ====
abbrev S8x2048 : Shape := ⟨2, ![8, 2048]⟩
abbrev S4x2048x6144 : Shape := ⟨3, ![4, 2048, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x2048 : Shape := ⟨2, ![8, 2048]⟩
abbrev S4x2048x6144 : Shape := ⟨3, ![4, 2048, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x6144, .f32⟩
  | .hbm, ⟨2, _⟩ => ⟨S4x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S4096x2048 : Shape := ⟨2, ![4096, 2048]⟩
abbrev S4x2x1x6144 : Shape := ⟨4, ![4, 2, 1, 6144]⟩
abbrev S4x2048 : Shape := ⟨2, ![4, 2048]⟩
abbrev S4x2048x2048 : Shape := ⟨3, ![4, 2048, 2048]⟩
abbrev S4x1x2048 : Shape := ⟨3, ![4, 1, 2048]⟩
abbrev S512x2048 : Shape := ⟨2, ![512, 2048]⟩
abbrev S1x2048x2048 : Shape := ⟨3, ![1, 2048, 2048]⟩
abbrev S1x1x1x6144 : Shape := ⟨4, ![1, 1, 1, 6144]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩
abbrev S1x2048 : Shape := ⟨2, ![1, 2048]⟩
abbrev S1x1x1x2048 : Shape := ⟨4, ![1, 1, 1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4x2x1x6144, .f32⟩
  | .hbm, ⟨3, _⟩ => ⟨S4x2048, .f32⟩
  | .hbm, ⟨4, _⟩ => ⟨S4x2048x2048, .f32⟩
  | .hbm, ⟨5, _⟩ => ⟨S4x2048x2048, .bf16⟩
  | .hbm, ⟨6, _⟩ => ⟨S4x1x2048, .f32⟩
  | .hbm, ⟨7, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x6144, .f32⟩
  | .local _ .vmem, ⟨6, _⟩ => ⟨S1x1x1x6144, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![c3_i32.toNat, v16.toNat, c0_i32_4.toNat, c0_i32_5.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x2048 : Shape := ⟨2, ![4096, 2048]⟩
abbrev S4x2x1x6144 : Shape := ⟨4, ![4, 2, 1, 6144]⟩
abbrev S4x2048 : Shape := ⟨2, ![4, 2048]⟩
abbrev S4x2048x2048 : Shape := ⟨3, ![4, 2048, 2048]⟩
abbrev S1x2x1x6144 : Shape := ⟨4, ![1, 2, 1, 6144]⟩
abbrev S2x1x6144 : Shape := ⟨3, ![2, 1, 6144]⟩
abbrev S2x1x2048 : Shape := ⟨3, ![2, 1, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2x2048x2048 : Shape := ⟨3, ![2, 2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4x2x1x6144, .f32⟩
  | .hbm, ⟨3, _⟩ => ⟨S4x2048, .f32⟩
  | .hbm, ⟨4, _⟩ => ⟨S4x2048x2048, .f32⟩
  | .hbm, ⟨5, _⟩ => ⟨S1x2x1x6144, .f32⟩
  | .hbm, ⟨6, _⟩ => ⟨S2x1x6144, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S4096x2048, .f32⟩
  | .hbm, ⟨11, _⟩ => ⟨S1x2048x2048, .f32⟩
  | .hbm, ⟨12, _⟩ => ⟨S2048x2048, .f32⟩
  | .hbm, ⟨13, _⟩ => ⟨S4096x2048, .f32⟩
  | .hbm, ⟨14, _⟩ => ⟨S1x2048, .f32⟩
  | .hbm, ⟨15, _⟩ => ⟨S2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S2x2048x2048, .f32⟩
  | .hbm, ⟨37, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel8.lean ====
abbrev S4096x5120 : Shape := ⟨2, ![4096, 5120]⟩
abbrev S128x128 : Shape := ⟨2, ![128, 128]⟩
abbrev S2048x2048 : Shape := ⟨2, ![2048, 2048]⟩
abbrev S128x256 : Shape := ⟨2, ![128, 256]⟩
abbrev S2048x4096 : Shape := ⟨2, ![2048, 4096]⟩
abbrev S4096x512 : Shape := ⟨2, ![4096, 512]⟩
abbrev S2048x512 : Shape := ⟨2, ![2048, 512]⟩
abbrev S512x512 : Shape := ⟨2, ![512, 512]⟩
abbrev S512x4096 : Shape := ⟨2, ![512, 4096]⟩
abbrev S2048x128 : Shape := ⟨2, ![2048, 128]⟩
abbrev S2048x256 : Shape := ⟨2, ![2048, 256]⟩

abbrev nBuf : Space → Nat
  | .hbm => 11
  | .vmem => 10
  | .smem => 0
  | _ => 0

abbrev bufTy : (tb : Table) → Fin (tcTables nBuf tb) → BufTy
  | .hbm, ⟨0, _⟩ => ⟨S4096x5120, .bf16⟩
  | .hbm, ⟨1, _⟩ => ⟨S128x128, .f32⟩
  | .hbm, ⟨2, _⟩ => ⟨S128x128, .f32⟩
  | .hbm, ⟨3, _⟩ => ⟨S2048x2048, .f32⟩
  | .hbm, ⟨4, _⟩ => ⟨S2048x2048, .f32⟩
  | .hbm, ⟨5, _⟩ => ⟨S128x256, .f32⟩
  | .hbm, ⟨6, _⟩ => ⟨S128x256, .bf16⟩
  | .hbm, ⟨7, _⟩ => ⟨S2048x2048, .f32⟩
  | .hbm, ⟨8, _⟩ => ⟨S2048x4096, .f32⟩
  | .hbm, ⟨9, _⟩ => ⟨S2048x4096, .bf16⟩
  | .hbm, ⟨10, _⟩ => ⟨S4096x512, .bf16⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S128x256, .bf16⟩
  | .local _ .vmem, ⟨5, _⟩ => ⟨S512x4096, .bf16⟩
  | .local _ .vmem, ⟨6, _⟩ => ⟨S512x4096, .bf16⟩
  | .local _ .vmem, ⟨7, _⟩ => ⟨S512x512, .bf16⟩
  | .local _ .vmem, ⟨8, _⟩ => ⟨S512x512, .bf16⟩
  | .local _ .vmem, ⟨9, _⟩ => ⟨S4096x512, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4096x5120 : Shape := ⟨2, ![4096, 5120]⟩
abbrev S128x128 : Shape := ⟨2, ![128, 128]⟩
abbrev S2048x2048 : Shape := ⟨2, ![2048, 2048]⟩
abbrev S2x2048x5120 : Shape := ⟨3, ![2, 2048, 5120]⟩
abbrev S2x2048x1536 : Shape := ⟨3, ![2, 2048, 1536]⟩
abbrev S2x2048x512 : Shape := ⟨3, ![2, 2048, 512]⟩
abbrev S_ : Shape := ⟨0, ![]⟩
abbrev S2x2048x4x128 : Shape := ⟨4, ![2, 2048, 4, 128]⟩
abbrev S2x4x128x2048 : Shape := ⟨4, ![2, 4, 128, 2048]⟩
abbrev S4096x512 : Shape := ⟨2, ![4096, 512]⟩

abbrev nBuf : Space → Nat
  | .hbm => 35
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S128x128, .f32⟩
  | .hbm, ⟨2, _⟩ => ⟨S128x128, .f32⟩
  | .hbm, ⟨3, _⟩ => ⟨S2048x2048, .f32⟩
  | .hbm, ⟨4, _⟩ => ⟨S2048x2048, .f32⟩
  | .hbm, ⟨5, _⟩ => ⟨S4096x5120, .f32⟩
  | .hbm, ⟨6, _⟩ => ⟨S2x2048x5120, .f32⟩
  | .hbm, ⟨7, _⟩ => ⟨S2x2048x1536, .f32⟩
  | .hbm, ⟨8, _⟩ => ⟨S2x2048x512, .f32⟩
  | .hbm, ⟨9, _⟩ => ⟨S2x2048x512, .f32⟩
  | .hbm, ⟨10, _⟩ => ⟨S2x2048x1536, .f32⟩
  | .hbm, ⟨11, _⟩ => ⟨S2x2048x512, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S_, .f32⟩
  | .hbm, ⟨16, _⟩ => ⟨S2x2048x512, .f32⟩
  | .hbm, ⟨17, _⟩ => ⟨S2x2048x512, .f32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S2x2048x512, .f32⟩
  | .hbm, ⟨22, _⟩ => ⟨S2x2048x4x128, .f32⟩
  | .hbm, ⟨23, _⟩ => ⟨S2x2048x4x128, .f32⟩
  | .hbm, ⟨24, _⟩ => ⟨S2x2048x4x128, .f32⟩
  | .hbm, ⟨25, _⟩ => ⟨S2x2048x4x128, .f32⟩
  | .hbm, ⟨26, _⟩ => ⟨S2x4x128x2048, .f32⟩
  | .hbm, ⟨27, _⟩ => ⟨S2x2048x4x128, .f32⟩
  | .hbm, ⟨28, _⟩ => ⟨S2x4x128x2048, .f32⟩
  | .hbm, ⟨29, _⟩ => ⟨S2x2048x4x128, .f32⟩
  | .hbm, ⟨30, _⟩ => ⟨S2x2048x4x128, .f32⟩
  | .hbm, ⟨31, _⟩ => ⟨S2x2048x512, .f32⟩
  | .hbm, ⟨32, _⟩ => ⟨S2x2048x512, .f32⟩
  | .hbm, ⟨33, _⟩ => ⟨S2x2048x512, .bf16⟩
  | .hbm, ⟨34, _⟩ => ⟨S4096x512, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.Frames.lean ====
/- The references' runs: each ends with its arguments unchanged and, having no semaphore, with every counter at zero. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import Idealize.ShloMosaic.Lib.Claim

@[expose] public section

noncomputable section

open Idealize.ShloMosaic Idealize.ShloMosaic.TcCoe Idealize.SL.Sem

namespace Cert

/-- The attention's reference leaves its six arguments alone. -/
theorem attention_reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- The input projection's reference leaves its four arguments alone. -/
theorem inproj_reference_frame : Cert.quiescent_Reference2Ideal := fun m g _ =>
  (θ_run Cert.Reference2Ideal.defs _ _).mono
    (fun r h => ⟨fun c => (h c).2.2.2, sem_eq_zero_of_no_sems (by decide) r.2⟩)
    (Cert.Reference2Ideal.Value.run m g)

/-- The output projection's reference leaves its six arguments alone. -/
theorem outproj_reference_frame : Cert.quiescent_Reference3Ideal := fun m g _ =>
  (θ_run Cert.Reference3Ideal.defs _ _).mono
    (fun r h => ⟨fun c => (h c).2, sem_eq_zero_of_no_sems (by decide) r.2⟩)
    (Cert.Reference3Ideal.Value.run m g)

/-- The last output projection's reference leaves its five arguments alone. -/
theorem outproj_last_reference_frame : Cert.quiescent_Reference4Ideal := fun m g _ =>
  (θ_run Cert.Reference4Ideal.defs _ _).mono
    (fun r h => ⟨fun c => (h c).2, sem_eq_zero_of_no_sems (by decide) r.2⟩)
    (Cert.Reference4Ideal.Value.run m g)

/-- The odd layer's mixer's reference leaves its six arguments alone. -/
theorem odd_mixer_reference_frame : Cert.quiescent_Reference5Ideal := fun m g _ =>
  (θ_run Cert.Reference5Ideal.defs _ _).mono
    (fun r h => ⟨fun c => (h c).2, sem_eq_zero_of_no_sems (by decide) r.2⟩)
    (Cert.Reference5Ideal.Value.run m g)

/-- The modulation's reference leaves its three arguments alone. -/
theorem modulation_reference_frame : Cert.quiescent_Reference6Ideal := fun m g _ =>
  (θ_run Cert.Reference6Ideal.defs _ _).mono
    (fun r h => ⟨fun c => (h c).2, sem_eq_zero_of_no_sems (by decide) r.2⟩)
    (Cert.Reference6Ideal.Value.run m g)

/-- The latent tokens' last output projection's reference leaves its five arguments alone. -/
theorem outproj_latent_reference_frame : Cert.quiescent_Reference7Ideal := fun m g _ =>
  (θ_run Cert.Reference7Ideal.defs _ _).mono
    (fun r h => ⟨fun c => (h c).2, sem_eq_zero_of_no_sems (by decide) r.2⟩)
    (Cert.Reference7Ideal.Value.run m g)

/-- The latent Fourier mixing's reference leaves its five arguments alone. -/
theorem latent_fourier_reference_frame : Cert.quiescent_Reference8Ideal := fun m g _ =>
  (θ_run Cert.Reference8Ideal.defs _ _).mono
    (fun r h => ⟨fun c => (h c).2, sem_eq_zero_of_no_sems (by decide) r.2⟩)
    (Cert.Reference8Ideal.Value.run m g)

end Cert

end
-- ==== Proof.Softmax.lean ====
/- Facts about the extended reals: a softmax with a sink divided before or after the product with the values, the
   logistic gate in its two spellings, and a product with the sign moved across. -/
module

public import Idealize.ShloMosaic.Lib.IdealHost
public import Idealize.ShloMosaic.Lib.Pointwise

@[expose] public section

noncomputable section

open Idealize.ShloMosaic
open scoped BigOperators

namespace Cert.Softmax

/-- Division off zero is the product with the inverse. -/
theorem div_of_ne {x y : EReal} (h : y ≠ 0) : Ideal.div x y = x * y⁻¹ := by
  unfold Ideal.div
  rw [if_neg h]

/-- The exponential is never negative. -/
theorem exp_nonneg (x : EReal) : 0 ≤ Ideal.exp x := by
  induction x with
  | bot => exact le_refl _
  | top => exact le_top
  | coe r => exact EReal.coe_nonneg.mpr (Real.exp_pos r).le

/-- `1 + eˣ` is not zero. -/
theorem one_add_exp_ne (x : EReal) : 1 + Ideal.exp x ≠ 0 := by
  have h : (1 : EReal) ≤ 1 + Ideal.exp x := by
    simpa using add_le_add (le_refl (1 : EReal)) (exp_nonneg x)
  exact (lt_of_lt_of_le zero_lt_one h).ne'

/-- `x / (1 + e^(0-x))` is `x · (1 / (1 + e^(-x)))`. -/
theorem silu_eq (x : EReal) :
    Ideal.div x (1 + Ideal.exp (0 - x)) = x * Ideal.div 1 (1 + Ideal.exp (-x)) := by
  rw [show (0 : EReal) - x = -x by rw [sub_eq_add_neg, zero_add],
    div_of_ne (one_add_exp_ne _), div_of_ne (one_add_exp_ne _), one_mul]

/-- A nonnegative real factor goes into a sum, whatever the terms. -/
theorem sum_mul_real {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, mul_comm,
      EReal.left_distrib_of_nonneg_of_ne_top (EReal.coe_nonneg.mpr ha) (EReal.coe_ne_top a), mul_comm (a : EReal),
      mul_comm (a : EReal), ih]

/-- A sum of reals is a real. -/
theorem sum_real {ι : Type} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert i s hi ih =>
    obtain ⟨a, ha⟩ := h i (Finset.mem_insert_self i s)
    obtain ⟨b, hb⟩ := ih fun j hj => h j (Finset.mem_insert_of_mem hj)
    exact ⟨a + b, by rw [Finset.sum_insert hi, ha, hb, EReal.coe_add]⟩

/-- What lies under infinity in absolute value is a real. -/
theorem real_of_abs_lt {x : EReal} (h : max x (-x) < ⊤) : ∃ r : ℝ, x = r := by
  induction x with
  | bot => simp at h
  | top => simp at h
  | coe r => exact ⟨r, rfl⟩

/-- The f32 pattern of minus infinity. -/
theorem ofBits_neg_inf : Ideal.ofBits .f32 0xFF800000#32 = ⊥ := by simp [Ideal.ofBits, Ideal.ieee]

/-- The f32 pattern of infinity. -/
theorem ofBits_inf : Ideal.ofBits .f32 0x7F800000#32 = ⊤ := by simp [Ideal.ofBits, Ideal.ieee]

/-- The scale of the scores: one over the root of the head's 128 channels. -/
def scale : EReal := (((Real.sqrt 128)⁻¹ : ℝ) : EReal)

/-- The score scale is a real. -/
theorem scale_real : ∃ r : ℝ, scale = r := ⟨_, rfl⟩

/-- The f32 pattern of 128. -/
theorem ofBits_128 : Ideal.ofBits .f32 0x43000000#32 = ((128 : ℝ) : EReal) := by
  simp [Ideal.ofBits, Ideal.ieee, -EReal.coe_mul]
  norm_num

/-- Dividing by the root of 128 is scaling, also of an infinite score. -/
theorem div_root (x : EReal) : Ideal.div x (Ideal.sqrt (Ideal.ofBits .f32 0x43000000#32)) = x * scale := by
  have h : Real.sqrt 128 ≠ 0 := (Real.sqrt_pos.mpr (by norm_num)).ne'
  rw [ofBits_128, Ideal.sqrt_coe, if_neg (show ¬(128 : ℝ) < 0 by norm_num), Ideal.div_coe h, one_div]
  rfl

variable {n : ℕ}

/-- The maximum over the scores with the sink as one more entry is the larger of the sink and the scores' maximum. -/
theorem max_eq (T : Fin (n + 1) → EReal) :
    max ⊥ (Finset.fold max ⊥ T Finset.univ)
      = max (T (Fin.last n)) (Finset.fold max ⊥ (fun j : Fin n => T j.castSucc) Finset.univ) := by
  rw [max_eq_right bot_le]
  apply le_antisymm
  · rw [Finset.fold_max_le]
    refine ⟨bot_le, fun j _ => ?_⟩
    induction j using Fin.lastCases with
    | last => exact le_max_left _ _
    | cast j =>
      exact le_trans ((Finset.le_fold_max _).mpr (Or.inr ⟨j, Finset.mem_univ j, le_rfl⟩)) (le_max_right _ _)
  · refine max_le ((Finset.le_fold_max _).mpr (Or.inr ⟨_, Finset.mem_univ _, le_rfl⟩)) ?_
    rw [Finset.fold_max_le]
    exact ⟨bot_le, fun j _ => (Finset.le_fold_max _).mpr (Or.inr ⟨_, Finset.mem_univ _, le_rfl⟩)⟩

/-- The maximum of real scores and a real sink is a real. -/
theorem max_real (S : Fin n → EReal) (hS : ∀ j, ∃ r : ℝ, S j = r) {σ : EReal} (hσ : ∃ r : ℝ, σ = r) :
    ∃ r : ℝ, max σ (Finset.fold max ⊥ S Finset.univ) = r := by
  obtain ⟨a, ha⟩ := hσ
  have hbot : max σ (Finset.fold max ⊥ S Finset.univ) ≠ ⊥ :=
    (lt_of_lt_of_le (by rw [ha]; exact EReal.bot_lt_coe a) (le_max_left _ _)).ne'
  have htop : max σ (Finset.fold max ⊥ S Finset.univ) ≠ ⊤ := by
    refine (max_lt (by rw [ha]; exact EReal.coe_lt_top a) ?_).ne
    rw [Finset.fold_max_lt]
    refine ⟨bot_lt_top, fun j _ => ?_⟩
    obtain ⟨b, hb⟩ := hS j
    rw [hb]; exact EReal.coe_lt_top b
  exact ⟨_, (EReal.coe_toReal htop hbot).symm⟩

/-- The softmax with a sink over `n` real scores `T j`, the sink being `T` at the last place: the weighted sum of the
    values divided once is the sum of the values weighted by the divided exponentials. -/
theorem attend_eq (T : Fin (n + 1) → EReal) (hT : ∀ j, ∃ r : ℝ, T j = r) (w : Fin n → EReal) :
    Ideal.div
        (∑ x : Fin n, Ideal.exp (T x.castSucc - max (T (Fin.last n))
          (Finset.fold max ⊥ (fun j : Fin n => T j.castSucc) Finset.univ)) * w x)
        (Ideal.exp (T (Fin.last n) - max (T (Fin.last n))
            (Finset.fold max ⊥ (fun j : Fin n => T j.castSucc) Finset.univ))
          + ∑ x : Fin n, Ideal.exp (T x.castSucc - max (T (Fin.last n))
            (Finset.fold max ⊥ (fun j : Fin n => T j.castSucc) Finset.univ)))
      = ∑ x : Fin n, w x * Ideal.div (Ideal.exp (T x.castSucc - max ⊥ (Finset.fold max ⊥ T Finset.univ)))
          (∑ j : Fin (n + 1), Ideal.exp (T j - max ⊥ (Finset.fold max ⊥ T Finset.univ))) := by
  rw [max_eq T]
  obtain ⟨M, hM⟩ := max_real (fun j : Fin n => T j.castSucc) (fun j => hT _) (hT (Fin.last n))
  rw [hM]
  have he : ∀ j, ∃ r : ℝ, 0 < r ∧ Ideal.exp (T j - (M : EReal)) = r := fun j => by
    obtain ⟨b, hb⟩ := hT j
    exact ⟨Real.exp (b - M), Real.exp_pos _, by rw [hb, ← EReal.coe_sub]; rfl⟩
  choose e hpos he using he
  have hD : ∑ j : Fin (n + 1), Ideal.exp (T j - (M : EReal)) = ((∑ j : Fin (n + 1), e j : ℝ) : EReal) := by
    rw [Finset.sum_congr rfl fun j _ => he j]
    exact (map_sum (⟨⟨Real.toEReal, rfl⟩, EReal.coe_add⟩ : ℝ →+ EReal) e Finset.univ).symm
  have hDpos : 0 < ∑ j : Fin (n + 1), e j := Finset.sum_pos (fun j _ => hpos j) Finset.univ_nonempty
  have hne : ((∑ j : Fin (n + 1), e j : ℝ) : EReal) ≠ 0 := by
    exact_mod_cast hDpos.ne'
  rw [add_comm (Ideal.exp _), ← Fin.sum_univ_castSucc (fun j => Ideal.exp (T j - (M : EReal))), hD, div_of_ne hne,
    ← EReal.coe_inv, sum_mul_real _ _ (inv_nonneg.mpr hDpos.le)]
  refine Finset.sum_congr rfl fun x _ => ?_
  rw [div_of_ne hne, ← EReal.coe_inv]
  ac_rfl

end Cert.Softmax

end
-- ==== Proof.AttentionReference.lean ====
/- The attention's reference read at an index: its scores, its rows' maxima, the weighted values, the gates and the
   Fourier mixing. -/
module

public import proofs.«01_k».proof.Proof.Gen.ReferenceIdeal.Read
public import proofs.«01_k».proof.Proof.Softmax
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.RefValue

open Cert.ReferenceIdeal Cert.ReferenceIdeal.Gen
open Cert.ReferenceIdeal.Read

variable (x0 : FVec Ideal S8192x5120 .bf16) (x1 : FVec Ideal S12 .f32) (x2 x3 : FVec Ideal S128x128 .f32)
  (x4 x5 : FVec Ideal S256x256 .f32) (B : Fin 32) (s : Fin 256)

/-- The scores of one query row of the head that owns column `q`, its sink being the last entry. -/
abbrev scores (q : Fin 1536) : Fin (256 + 1) → EReal := fun j =>
  val_main_v19 (F := Ideal) x0 x1 (ix5 B ⟨q.val / 384, by omega⟩ ⟨q.val / 128 % 3, by omega⟩ s j)

/-- A score is the scaled product of the key's and the query's rows; the last one is the head's sink. -/
theorem scores_at (q : Fin 1536) (j : Fin (256 + 1)) : scores x0 x1 B s q j
      = if h : j.val < 256 then
          (∑ e : Fin 128, x0 (ix2 ⟨B.val * 256 + j.val, by omega⟩ ⟨1536 + (q.val / 384 * 128 + e.val), by omega⟩)
            * x0 (ix2 ⟨B.val * 256 + s.val, by omega⟩ ⟨q.val / 384 * 384 + q.val / 128 % 3 * 128 + e.val, by omega⟩))
            * Cert.Softmax.scale
        else x1 (ix1 ⟨q.val / 384 * 3 + q.val / 128 % 3, by omega⟩) := by
  simp only [← Cert.Softmax.div_root]
  pointwise [scores, val_main_v19, val_main_v18, val_main_v17, val_main_v16, val_main_v15, val_main_v14, val_main_v13,
    val_main_v12, val_main_v11, val_main_v9, val_main_v8, val_main_v3, val_main_v2, val_main_v1, val_main_v0, val_main_cst]

/-- The maximum the reference subtracts: over the scores and the sink, and no less than minus infinity. -/
theorem largest_at (h : Fin 4) (g : Fin 3) : val_main_v22 (F := Ideal) x0 x1 (ix4 B h g s)
      = max ⊥ (Finset.fold max ⊥ (fun j : Fin (256 + 1) => val_main_v19 (F := Ideal) x0 x1 (ix5 B h g s j)) Finset.univ) := by
  rw [val_main_v22_apply, val_main_v21_apply, val_main_cst_1_apply]
  unfold val_main_v20
  generalize val_main_v19 (F := Ideal) x0 x1 = y
  rw [Host.reduce_eq_fold_single _ _ _ _ (by decide), val_main_cst_0_apply, Ideal.ofBits_def, Cert.Softmax.ofBits_neg_inf]
  refine congrArg (max ⊥) (Finset.fold_congr fun k _ => congrArg y (funext fun a => Fin.ext ?_))
  match a with | ⟨0, _⟩ => rfl | ⟨1, _⟩ => rfl | ⟨2, _⟩ => rfl | ⟨3, _⟩ => rfl | ⟨4, _⟩ => rfl

/-- The attended values: the values weighted by the exponentials over their sum, the sink's among them. -/
theorem attended_at (q : Fin 1536) : val_main_v34 (F := Ideal) x0 x1 (ix3 B s q)
    = ∑ x : Fin 256, x0 (ix2 ⟨B.val * 256 + x.val, by omega⟩ ⟨2048 + (q.val / 384 * 128 + q.val % 128), by omega⟩)
      * Ideal.div (Ideal.exp (scores x0 x1 B s q x.castSucc - max ⊥ (Finset.fold max ⊥ (scores x0 x1 B s q) Finset.univ)))
        (∑ j : Fin (256 + 1), Ideal.exp (scores x0 x1 B s q j
          - max ⊥ (Finset.fold max ⊥ (scores x0 x1 B s q) Finset.univ))) := by
  rw [← largest_at x0 x1 B s ⟨q.val / 384, by omega⟩ ⟨q.val / 128 % 3, by omega⟩]
  pointwise [val_main_v34, val_main_v33, val_main_v32, val_main_v31, val_main_v30, val_main_v29, val_main_v28,
    val_main_v27, val_main_v26, val_main_v25, val_main_v24, val_main_v23, val_main_v10, val_main_v4, val_main_v1,
    val_main_v0, val_main_cst_2]
  rfl

/-- The attention's gate, as the kernel spells the logistic product. -/
theorem attention_gate_at (q : Fin 1536) : val_main_v35 (F := Ideal) x0 (ix3 B s q)
    = Ideal.div (x0 (ix2 ⟨B.val * 256 + s.val, by omega⟩ ⟨2560 + q.val, by omega⟩))
        (1 + Ideal.exp (0 - x0 (ix2 ⟨B.val * 256 + s.val, by omega⟩ ⟨2560 + q.val, by omega⟩))) := by
  rw [Cert.Softmax.silu_eq]
  pointwise [val_main_v35, val_main_call0_v5, val_main_call0_v4, val_main_call0_v3, val_main_call0_v2,
    val_main_call0_v1, val_main_call0_v0, val_main_call0_cst, val_main_call0_cst_0, val_main_v5, val_main_v1, val_main_v0]

/-- The Fourier part's gate, as the kernel spells the logistic product. -/
theorem fourier_gate_at (q : Fin 512) : val_main_v37 (F := Ideal) x0 (ix3 B s q)
    = Ideal.div (x0 (ix2 ⟨B.val * 256 + s.val, by omega⟩ ⟨4608 + q.val, by omega⟩))
        (1 + Ideal.exp (0 - x0 (ix2 ⟨B.val * 256 + s.val, by omega⟩ ⟨4608 + q.val, by omega⟩))) := by
  rw [Cert.Softmax.silu_eq]
  pointwise [val_main_v37, val_main_call1_v5, val_main_call1_v4, val_main_call1_v3, val_main_call1_v2,
    val_main_call1_v1, val_main_call1_v0, val_main_call1_cst, val_main_call1_cst_0, val_main_v7, val_main_v1, val_main_v0]

/-- The Fourier mixing: the real part's tokens mixed by cosines plus the negated imaginary part's mixed by sines. -/
theorem fourier_at (q : Fin 512) : val_main_v47 (F := Ideal) x0 x2 x3 x4 x5 (ix3 B s q)
    = ∑ x : Fin 256, (∑ e : Fin 128, x0 (ix2 ⟨B.val * 256 + x.val, by omega⟩ ⟨4096 + (q.val / 128 * 128 + e.val), by omega⟩)
          * x2 (ix2 e ⟨q.val % 128, by omega⟩)) * x4 (ix2 s x)
      + ∑ x : Fin 256, (-∑ e : Fin 128, x0 (ix2 ⟨B.val * 256 + x.val, by omega⟩ ⟨4096 + (q.val / 128 * 128 + e.val), by omega⟩)
          * x3 (ix2 e ⟨q.val % 128, by omega⟩)) * x5 (ix2 s x) := by
  pointwise [val_main_v47, val_main_v46, val_main_v45, val_main_v44, val_main_v43, val_main_v42, val_main_v41,
    val_main_v40, val_main_v39, val_main_v38, val_main_v6, val_main_v1, val_main_v0]

/-- The result's first 1536 columns are the gated attention. -/
theorem result_attention_at (q : Fin 1536) :
    val_main_v51 (F := Ideal) x0 x1 x2 x3 x4 x5 (ix2 ⟨B.val * 256 + s.val, by omega⟩ ⟨q.val, by omega⟩)
      = val_main_v35 (F := Ideal) x0 (ix3 B s q) * val_main_v34 (F := Ideal) x0 x1 (ix3 B s q) := by
  have e : val_main_v51 (F := Ideal) x0 x1 x2 x3 x4 x5 (ix2 ⟨B.val * 256 + s.val, by omega⟩ ⟨q.val, by omega⟩)
      = val_main_v36 (F := Ideal) x0 x1 (ix3 B s q) := by
    pointwise [val_main_v51, val_main_v50, val_main_v49]
  rw [e]
  rfl

/-- The result's last 512 columns are the gated Fourier mixing. -/
theorem result_fourier_at (q : Fin 512) :
    val_main_v51 (F := Ideal) x0 x1 x2 x3 x4 x5 (ix2 ⟨B.val * 256 + s.val, by omega⟩ ⟨1536 + q.val, by omega⟩)
      = val_main_v37 (F := Ideal) x0 (ix3 B s q) * val_main_v47 (F := Ideal) x0 x2 x3 x4 x5 (ix3 B s q) := by
  have e : val_main_v51 (F := Ideal) x0 x1 x2 x3 x4 x5 (ix2 ⟨B.val * 256 + s.val, by omega⟩ ⟨1536 + q.val, by omega⟩)
      = val_main_v48 (F := Ideal) x0 x2 x3 x4 x5 (ix3 B s q) := by
    pointwise [val_main_v51, val_main_v50, val_main_v49]
  rw [e]
  rfl

end Cert.ReferenceIdeal.RefValue

end
-- ==== Proof.Attention.lean ====
/- The context attention with the Fourier mixing: what every grid point writes is the reference's value there. -/
module

public import proofs.«01_k».proof.Defs
public import proofs.«01_k».proof.Proof.Gen.KernelIdeal.Frame
public import proofs.«01_k».proof.Proof.Gen.ReferenceIdeal.Run
public import proofs.«01_k».proof.Proof.Gen.Pre_finite
public import proofs.«01_k».proof.Proof.AttentionReference
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.RefValue

open Cert.KernelIdeal Cert.KernelIdeal.Gen
open Cert.ReferenceIdeal.Read Cert.ReferenceIdeal.RefValue

variable (m : (ℓ : Loc nD τ sig) → Buf (Elt Ideal) ℓ)

/-- The windows' block indices at every grid point. -/
theorem idx : ∀ t : Fin cfg0.N, win0_0.index t = ![0] ∧ win0_1.index t = ![t.val, 0] ∧ win0_2.index t = ![0, 0]
    ∧ win0_3.index t = ![0, 0] ∧ win0_4.index t = ![t.val, 0] ∧ t.val < 32 :=
  (by decide +kernel : ∀ t : Fin grid0.N, _)

/-- The kernel's first argument, the projected tokens, and its second, one sink per head. -/
abbrev projection (c : Dev nD) : FVec Ideal S8192x5120 .bf16 := m ((c : Thread nD τ).loc main_arg0)
abbrev sinks (c : Dev nD) : FVec Ideal S12 .f32 := m ((c : Thread nD τ).loc main_arg1)

/-- The reference's result of the kernel's arguments. -/
abbrev result (c : Dev nD) : FVec Ideal S8192x2048 .bf16 := val_main_v51 (F := Ideal) (projection m c)
  (sinks m c) (m ((c : Thread nD τ).loc main_arg2)) (m ((c : Thread nD τ).loc main_arg3))
  (m ((c : Thread nD τ).loc main_arg4)) (m ((c : Thread nD τ).loc main_arg5))

/-! ### The heads, each stored as one tile: the same function of its blocks however the body is cut into payloads -/

/-- The scale the ideal kernel names. -/
theorem named_scale : Named.named (F := Ideal) κ "scale" (φ := .f32) 0x3DB504F3#32 = Cert.Softmax.scale :=
  IdealRules.named_const.ideal_named_scalar _ _ _ _ rfl

section Payloads
variable (k v q ga : FVec Ideal S256x128 .bf16) (σ : EReal)

theorem cut_1 : k0_pay4 v (k0_pay3 k q) σ ga = k0_pay2 (F := Ideal) k v q σ ga := rfl
theorem cut_2 : k0_pay8 v (k0_pay5 k q) (k0_pay6 k q σ) (k0_pay7 k q σ) ga = k0_pay2 (F := Ideal) k v q σ ga := rfl
theorem cut_3 : k0_pay14 v (k0_pay11 k q σ) (k0_pay12 k q σ) (k0_pay13 k q σ) ga = k0_pay2 (F := Ideal) k v q σ ga := rfl
theorem cut_4 : k0_pay17 (k0_pay15 k v q σ) (k0_pay16 ga) (FloatOps.ofBits FTy.f32 0#32)
    = k0_pay2 (F := Ideal) k v q σ ga := rfl
theorem cut_5 : k0_pay18 k v q σ ga = k0_pay2 (F := Ideal) k v q σ ga := rfl
theorem cut_6 : k0_pay19 k v q σ ga = k0_pay2 (F := Ideal) k v q σ ga := rfl
theorem cut_7 : k0_pay21 v (k0_pay20 k q) σ ga = k0_pay2 (F := Ideal) k v q σ ga := rfl
theorem cut_8 : k0_pay25 v (k0_pay22 k q) (k0_pay23 k q σ) (k0_pay24 k q σ) ga = k0_pay2 (F := Ideal) k v q σ ga := rfl
theorem cut_9 : k0_pay31 v (k0_pay28 k q σ) (k0_pay29 k q σ) (k0_pay30 k q σ) ga = k0_pay2 (F := Ideal) k v q σ ga := rfl
theorem cut_10 : k0_pay34 (k0_pay32 k v q σ) (k0_pay33 ga) (FloatOps.ofBits FTy.f32 0#32)
    = k0_pay2 (F := Ideal) k v q σ ga := rfl
theorem cut_11 : k0_pay35 k v q σ ga = k0_pay2 (F := Ideal) k v q σ ga := rfl

/-- One head's tile at an index. -/
theorem head_tile_at (i : Fin 256) (d : Fin 128) : k0_pay2 (F := Ideal) k v q σ ga (ix2 i d)
    = Ideal.div (ga (ix2 i d)) (1 + Ideal.exp (0 - ga (ix2 i d))) *
      Ideal.div
        (∑ x : Fin 256, Ideal.exp ((∑ e : Fin 128, q (ix2 i e) * k (ix2 x e)) * Cert.Softmax.scale
          - max σ (Finset.fold max ⊥ (fun x : Fin 256 => (∑ e : Fin 128, q (ix2 i e) * k (ix2 x e))
            * Cert.Softmax.scale) Finset.univ)) * v (ix2 x d))
        (Ideal.exp (σ - max σ (Finset.fold max ⊥ (fun x : Fin 256 => (∑ e : Fin 128, q (ix2 i e) * k (ix2 x e))
            * Cert.Softmax.scale) Finset.univ))
          + ∑ x : Fin 256, Ideal.exp ((∑ e : Fin 128, q (ix2 i e) * k (ix2 x e)) * Cert.Softmax.scale
            - max σ (Finset.fold max ⊥ (fun x : Fin 256 => (∑ e : Fin 128, q (ix2 i e) * k (ix2 x e))
              * Cert.Softmax.scale) Finset.univ))) := by
  rw [← Cert.Softmax.ofBits_neg_inf, ← named_scale]
  pointwise [k0_pay2]

end Payloads

/-! ### The precondition -/

/-- The queries, the keys and the sinks of one device are real. -/
structure Real (c : Dev nD) : Prop where
  queries_keys : ∀ (R : Fin 8192) (q : Fin 2048), ∃ r : ℝ,
    (projection m c) (ix2 R ⟨q.val, by omega⟩) = r
  sinks : ∀ p : Fin 12, ∃ r : ℝ, (sinks m c) (ix1 p) = r

/-- The comparison the precondition makes, read as a fact. -/
theorem real_of_cmp {x : EReal} (h : Ideal.cmp .olt (max x (-x)) ⊤ = 1#1) : ∃ r : ℝ, x = r := by
  refine Cert.Softmax.real_of_abs_lt ?_
  by_contra hn
  simp [Ideal.cmp, hn] at h

theorem real_of_pre (h : Cert.Pre_KernelIdeal_finite m) (c : Dev nD) : Real m c := by
  refine ⟨fun R q => real_of_cmp ?_, fun p => real_of_cmp ?_⟩
  · rw [← Cert.Softmax.ofBits_inf, ← congrFun (h c).1 (ix2 R q)]
    pointwise [Cert.Pre_finite.fn]
    rfl
  · rw [← Cert.Softmax.ofBits_inf, ← congrFun (h c).2 (ix1 p)]
    pointwise [Cert.Pre_finite.fn]
    rfl

/-- With real queries, keys and sinks every score is real. -/
theorem scores_real {c : Dev nD} (h : Real m c) (B : Fin 32) (s : Fin 256) (q : Fin 1536) (j : Fin (256 + 1)) :
    ∃ r : ℝ, scores (projection m c) (sinks m c) B s q j = r := by
  rw [scores_at]
  split
  · obtain ⟨b, hb⟩ := Cert.Softmax.scale_real
    obtain ⟨a, ha⟩ := Cert.Softmax.sum_real Finset.univ (fun e : Fin 128 =>
      (projection m c)
          (ix2 ⟨B.val * 256 + j.val, by omega⟩ ⟨1536 + (q.val / 384 * 128 + e.val), by omega⟩)
        * (projection m c)
          (ix2 ⟨B.val * 256 + s.val, by omega⟩ ⟨q.val / 384 * 384 + q.val / 128 % 3 * 128 + e.val, by omega⟩))
      (fun e _ => by
        obtain ⟨y, hy⟩ := h.queries_keys ⟨B.val * 256 + j.val, by omega⟩ ⟨1536 + (q.val / 384 * 128 + e.val), by omega⟩
        obtain ⟨z, hz⟩ := h.queries_keys ⟨B.val * 256 + s.val, by omega⟩
          ⟨q.val / 384 * 384 + q.val / 128 % 3 * 128 + e.val, by omega⟩
        exact ⟨y * z, by rw [EReal.coe_mul]; exact congrArg₂ (· * ·) hy hz⟩)
    exact ⟨a * b, by rw [EReal.coe_mul]; exact congrArg₂ (· * ·) ha hb⟩
  · exact h.sinks _

/-! ### The tiles against the reference -/

/-- The tile of head `p`, from blocks that read the head's columns of the projection and its sink. -/
theorem head_at {c : Dev nD} (h : Real m c) (t : Fin cfg0.N) (p : Fin 12) (k v q ga : FVec Ideal S256x128 .bf16) (σ : EReal)
    (hk : ∀ x e, k (ix2 x e) = (projection m c)
      (ix2 ⟨t.val * 256 + x.val, by have := (idx t).2.2.2.2.2; omega⟩ ⟨1536 + (p.val / 3 * 128 + e.val), by omega⟩))
    (hv : ∀ x e, v (ix2 x e) = (projection m c)
      (ix2 ⟨t.val * 256 + x.val, by have := (idx t).2.2.2.2.2; omega⟩ ⟨2048 + (p.val / 3 * 128 + e.val), by omega⟩))
    (hq : ∀ x e, q (ix2 x e) = (projection m c)
      (ix2 ⟨t.val * 256 + x.val, by have := (idx t).2.2.2.2.2; omega⟩ ⟨p.val * 128 + e.val, by omega⟩))
    (hga : ∀ x e, ga (ix2 x e) = (projection m c)
      (ix2 ⟨t.val * 256 + x.val, by have := (idx t).2.2.2.2.2; omega⟩ ⟨2560 + (p.val * 128 + e.val), by omega⟩))
    (hσ : σ = (sinks m c) (ix1 p))
    (i : Fin 256) (d : Fin 128) :
    k0_pay2 (F := Ideal) k v q σ ga (ix2 i d) = result m c
      (ix2 ⟨t.val * 256 + i.val, by have := (idx t).2.2.2.2.2; omega⟩ ⟨p.val * 128 + d.val, by omega⟩) := by
  have ht := (idx t).2.2.2.2.2
  have hd : ∀ e : Fin 128, (p.val * 128 + e.val) / 384 = p.val / 3 ∧ (p.val * 128 + e.val) / 128 % 3 = p.val % 3
      ∧ (p.val * 128 + e.val) % 128 = e.val := fun e => by omega
  have hS : (fun x : Fin 256 => (∑ e : Fin 128, q (ix2 i e) * k (ix2 x e)) * Cert.Softmax.scale)
      = fun x : Fin 256 => scores (projection m c) (sinks m c)
        ⟨t.val, ht⟩ i ⟨p.val * 128 + d.val, by omega⟩ x.castSucc := by
    funext x
    rw [scores_at, dif_pos (show x.castSucc.val < 256 from x.isLt)]
    refine congrArg (· * _) (Finset.sum_congr rfl fun e _ => ?_)
    rw [hq, hk, mul_comm]
    refine congrArg₂ (· * ·) (congrArg _ (congrArg₂ ix2 rfl (Fin.ext ?_))) (congrArg _ (congrArg₂ ix2 rfl (Fin.ext ?_)))
    · show 1536 + (p.val / 3 * 128 + e.val) = 1536 + ((p.val * 128 + d.val) / 384 * 128 + e.val)
      omega
    · show p.val * 128 + e.val = (p.val * 128 + d.val) / 384 * 384 + (p.val * 128 + d.val) / 128 % 3 * 128 + e.val
      omega
  have hs : σ = scores (projection m c) (sinks m c)
      ⟨t.val, ht⟩ i ⟨p.val * 128 + d.val, by omega⟩ (Fin.last 256) := by
    rw [scores_at, dif_neg (by simp), hσ]
    refine congrArg _ (congrArg ix1 (Fin.ext ?_))
    show p.val = (p.val * 128 + d.val) / 384 * 3 + (p.val * 128 + d.val) / 128 % 3
    omega
  have hS' := fun x => congrFun hS x
  refine Eq.trans ?_ (result_attention_at _ _ _ _ _ _ ⟨t.val, ht⟩ i ⟨p.val * 128 + d.val, by omega⟩).symm
  rw [head_tile_at, attention_gate_at, attended_at, hga]
  refine congrArg₂ (· * ·) rfl ?_
  simp only [hS, hS', hs]
  rw [Cert.Softmax.attend_eq _ (scores_real m h _ _ _)]
  refine Finset.sum_congr rfl fun x _ => congrArg (· * _) ?_
  rw [hv]
  refine congrArg _ (congrArg₂ ix2 rfl (Fin.ext ?_))
  show 2048 + (p.val / 3 * 128 + d.val) = 2048 + ((p.val * 128 + d.val) / 384 * 128 + (p.val * 128 + d.val) % 128)
  omega

/-- The mixed tokens of the Fourier tile, from the four column groups `u0 … u3` of the tokens `u`. -/
theorem mixed_at (d : FVec Ideal S128x256 .bf16) (u0 u1 u2 u3 : FVec Ideal S256x128 .bf16) (w : FVec Ideal S256x512 .bf16)
    (u : Fin 256 → Fin 512 → EReal)
    (h0 : ∀ x e, u0 (ix2 x e) = u x ⟨e.val, by omega⟩) (h1 : ∀ x e, u1 (ix2 x e) = u x ⟨128 + e.val, by omega⟩)
    (h2 : ∀ x e, u2 (ix2 x e) = u x ⟨256 + e.val, by omega⟩) (h3 : ∀ x e, u3 (ix2 x e) = u x ⟨384 + e.val, by omega⟩)
    (s : Fin 256) (q : Fin 512) :
    k0_pay36 (F := Ideal) d u0 u1 u2 u3 w (ix2 s q)
      = ∑ x : Fin 256, w (ix2 s ⟨x.val, by omega⟩)
          * ∑ e : Fin 128, u x ⟨q.val / 128 * 128 + e.val, by omega⟩ * d (ix2 e ⟨q.val % 128, by omega⟩)
        + ∑ x : Fin 256, w (ix2 s ⟨256 + x.val, by omega⟩)
          * ∑ e : Fin 128, u x ⟨q.val / 128 * 128 + e.val, by omega⟩ * d (ix2 e ⟨128 + q.val % 128, by omega⟩) := by
  pointwise [k0_pay36]
  simp only [h0, h1, h2, h3]
  split_ifs with c0 c1 c2 <;>
  refine congrArg₂ (· + ·) (Finset.sum_congr rfl fun x _ => congrArg (_ * ·) (Finset.sum_congr rfl fun e _ =>
      congrArg₂ (· * ·) (congrArg (u x) (Fin.ext ?_)) (congrArg d (congrArg₂ ix2 rfl (Fin.ext ?_)))))
    (Finset.sum_congr rfl fun x _ => congrArg (_ * ·) (Finset.sum_congr rfl fun e _ =>
      congrArg₂ (· * ·) (congrArg (u x) (Fin.ext ?_)) (congrArg d (congrArg₂ ix2 rfl (Fin.ext ?_))))) <;>
  simp only [] <;> omega

/-- The Fourier tile against the reference, from the tokens' columns, their gate and the two matrices of the transform. -/
theorem fourier_tile_at (c : Dev nD) (t : Fin cfg0.N) (d : FVec Ideal S128x256 .bf16) (u0 u1 u2 u3 : FVec Ideal S256x128 .bf16)
    (w : FVec Ideal S256x512 .bf16) (g : FVec Ideal S256x512 .bf16)
    (h0 : ∀ x e, u0 (ix2 x e) = projection m c (ix2 ⟨t.val * 256 + x.val, by have := (idx t).2.2.2.2.2; omega⟩ ⟨4096 + e.val, by omega⟩))
    (h1 : ∀ x e, u1 (ix2 x e) = projection m c (ix2 ⟨t.val * 256 + x.val, by have := (idx t).2.2.2.2.2; omega⟩ ⟨4224 + e.val, by omega⟩))
    (h2 : ∀ x e, u2 (ix2 x e) = projection m c (ix2 ⟨t.val * 256 + x.val, by have := (idx t).2.2.2.2.2; omega⟩ ⟨4352 + e.val, by omega⟩))
    (h3 : ∀ x e, u3 (ix2 x e) = projection m c (ix2 ⟨t.val * 256 + x.val, by have := (idx t).2.2.2.2.2; omega⟩ ⟨4480 + e.val, by omega⟩))
    (hg : ∀ x e, g (ix2 x e) = projection m c (ix2 ⟨t.val * 256 + x.val, by have := (idx t).2.2.2.2.2; omega⟩ ⟨4608 + e.val, by omega⟩))
    (hdc : ∀ (e j : Fin 128), d (ix2 e ⟨j.val, by omega⟩)
      = (show FVec Ideal S128x128 .f32 from m ((c : Thread nD τ).loc main_arg2)) (ix2 e j))
    (hds : ∀ (e j : Fin 128), d (ix2 e ⟨128 + j.val, by omega⟩)
      = (show FVec Ideal S128x128 .f32 from m ((c : Thread nD τ).loc main_arg3)) (ix2 e j))
    (hwc : ∀ (s x : Fin 256), w (ix2 s ⟨x.val, by omega⟩)
      = (show FVec Ideal S256x256 .f32 from m ((c : Thread nD τ).loc main_arg4)) (ix2 s x))
    (hws : ∀ (s x : Fin 256), w (ix2 s ⟨256 + x.val, by omega⟩)
      = -(show FVec Ideal S256x256 .f32 from m ((c : Thread nD τ).loc main_arg5)) (ix2 s x))
    (s : Fin 256) (q : Fin 512) :
    k0_pay1 (F := Ideal) (k0_pay36 d u0 u1 u2 u3 w) (k0_pay37 g) (k0_pay38 g) k0_pay39 (ix2 s q)
      = result m c (ix2 ⟨t.val * 256 + s.val, by have := (idx t).2.2.2.2.2; omega⟩ ⟨1536 + q.val, by omega⟩) := by
  have ht := (idx t).2.2.2.2.2
  refine Eq.trans ?_ (result_fourier_at _ _ _ _ _ _ ⟨t.val, ht⟩ s q).symm
  rw [fourier_gate_at, fourier_at]
  have hm := mixed_at d u0 u1 u2 u3 w (fun x q => projection m c (ix2 ⟨t.val * 256 + x.val, by omega⟩ ⟨4096 + q.val, by omega⟩))
    h0 (fun x e => (h1 x e).trans (congrArg _ (congrArg₂ ix2 rfl (Fin.ext (by show 4224 + e.val = 4096 + (128 + e.val); omega)))))
    (fun x e => (h2 x e).trans (congrArg _ (congrArg₂ ix2 rfl (Fin.ext (by show 4352 + e.val = 4096 + (256 + e.val); omega)))))
    (fun x e => (h3 x e).trans (congrArg _ (congrArg₂ ix2 rfl (Fin.ext (by show 4480 + e.val = 4096 + (384 + e.val); omega))))) s q
  have hp : k0_pay1 (F := Ideal) (k0_pay36 d u0 u1 u2 u3 w) (k0_pay37 g) (k0_pay38 g) k0_pay39 (ix2 s q)
      = Ideal.div (g (ix2 s q)) (1 + Ideal.exp (0 - g (ix2 s q))) * k0_pay36 (F := Ideal) d u0 u1 u2 u3 w (ix2 s q) := by
    generalize k0_pay36 (F := Ideal) d u0 u1 u2 u3 w = z
    pointwise [k0_pay1, k0_pay37, k0_pay38, k0_pay39]
  rw [hp, hm, hg]
  refine congrArg₂ (· * ·) rfl (congrArg₂ (· + ·) (Finset.sum_congr rfl fun x _ => ?_) (Finset.sum_congr rfl fun x _ => ?_))
  · rw [hwc, mul_comm]
    exact congrArg₂ (· * ·) (Finset.sum_congr rfl fun e _ => congrArg₂ (· * ·) rfl (hdc e ⟨q.val % 128, by omega⟩)) rfl
  · rw [hws, mul_comm, mul_neg, ← neg_mul]
    exact congrArg₂ (· * ·) (congrArg (- ·) (Finset.sum_congr rfl fun e _ => congrArg₂ (· * ·) rfl (hds e ⟨q.val % 128, by omega⟩))) rfl

/-- The blocks of the transform's matrices: the channel cosines beside the channel sines, and the token cosines beside the
    negated token sines. -/
theorem matrices (c : Dev nD) (t : Fin cfg0.N) :
    (∀ (e j : Fin 128), (show FVec Ideal S128x256 .bf16 from iblk m c 2 t) (ix2 e ⟨j.val, by omega⟩)
      = (show FVec Ideal S128x128 .f32 from m ((c : Thread nD τ).loc main_arg2)) (ix2 e j))
    ∧ (∀ (e j : Fin 128), (show FVec Ideal S128x256 .bf16 from iblk m c 2 t) (ix2 e ⟨128 + j.val, by omega⟩)
      = (show FVec Ideal S128x128 .f32 from m ((c : Thread nD τ).loc main_arg3)) (ix2 e j))
    ∧ (∀ (s x : Fin 256), (show FVec Ideal S256x512 .bf16 from iblk m c 3 t) (ix2 s ⟨x.val, by omega⟩)
      = (show FVec Ideal S256x256 .f32 from m ((c : Thread nD τ).loc main_arg4)) (ix2 s x))
    ∧ (∀ (s x : Fin 256), (show FVec Ideal S256x512 .bf16 from iblk m c 3 t) (ix2 s ⟨256 + x.val, by omega⟩)
      = -(show FVec Ideal S256x256 .f32 from m ((c : Thread nD τ).loc main_arg5)) (ix2 s x)) := by
  refine ⟨fun e j => ?_, fun e j => ?_, fun e j => ?_, fun e j => ?_⟩ <;> blk_simp [iblk, V] <;> entry_read <;> pointwise
  · refine (dif_pos ?_).trans ?_
    · blk_simp [idx t]
      exact j.isLt
    · blk_ext [idx t]
  · refine (dif_neg ?_).trans ?_
    · blk_simp [idx t]
      exact not_lt.mpr (Nat.le_add_right 128 j.val)
    · blk_ext [idx t]
  · refine (dif_pos ?_).trans ?_
    · blk_simp [idx t]
      exact j.isLt
    · blk_ext [idx t]
  · refine (dif_neg ?_).trans (congrArg (- ·) ?_)
    · blk_simp [idx t]
      exact not_lt.mpr (Nat.le_add_right 256 j.val)
    · blk_ext [idx t]

set_option maxHeartbeats 4000000 in
/-- The result after the run. -/
theorem final {c : Dev nD} (h : Real m c) : (dats m 0 c).arrAt 4 (cfgs 0).N = result m c := by
  refine (dats m 0 c).arrAt_eq_of_covers 4 _ (by decide +kernel) fun t hf y => ?_
  blk_simp; rw [after0_4]
  unfold outsAt0
  frame_out
  canon_tiles x hx using View.cover_of_tiledBy _ ![256, 128] (by sl_kernel_rfl) _
  all_goals rw [eq_ix2 x]
  · refine (fourier_tile_at m c t _ _ _ _ _ _ _ ?_ ?_ ?_ ?_ ?_ ?_ ?_ ?_ ?_ (x 0) (x 1)).trans ?_
    on_goal 10 => blk_ext [idx t]
    on_goal 9 => exact (matrices m c t).2.2.2
    on_goal 8 => exact (matrices m c t).2.2.1
    on_goal 7 => exact (matrices m c t).2.1
    on_goal 6 => exact (matrices m c t).1
    all_goals intro i e; blk_point [iblk, V, idx t]
  on_goal 1 => rw [cut_11]; refine (head_at m h t 11 _ _ _ _ _ ?_ ?_ ?_ ?_ ?_ (x 0) (x 1)).trans ?_
  on_goal 7 => rw [cut_10]; refine (head_at m h t 10 _ _ _ _ _ ?_ ?_ ?_ ?_ ?_ (x 0) (x 1)).trans ?_
  on_goal 13 => rw [cut_9]; refine (head_at m h t 9 _ _ _ _ _ ?_ ?_ ?_ ?_ ?_ (x 0) (x 1)).trans ?_
  on_goal 19 => rw [cut_8]; refine (head_at m h t 8 _ _ _ _ _ ?_ ?_ ?_ ?_ ?_ (x 0) (x 1)).trans ?_
  on_goal 25 => rw [cut_7]; refine (head_at m h t 7 _ _ _ _ _ ?_ ?_ ?_ ?_ ?_ (x 0) (x 1)).trans ?_
  on_goal 31 => rw [cut_6]; refine (head_at m h t 6 _ _ _ _ _ ?_ ?_ ?_ ?_ ?_ (x 0) (x 1)).trans ?_
  on_goal 37 => rw [cut_5]; refine (head_at m h t 5 _ _ _ _ _ ?_ ?_ ?_ ?_ ?_ (x 0) (x 1)).trans ?_
  on_goal 43 => rw [cut_4]; refine (head_at m h t 4 _ _ _ _ _ ?_ ?_ ?_ ?_ ?_ (x 0) (x 1)).trans ?_
  on_goal 49 => rw [cut_3]; refine (head_at m h t 3 _ _ _ _ _ ?_ ?_ ?_ ?_ ?_ (x 0) (x 1)).trans ?_
  on_goal 55 => rw [cut_2]; refine (head_at m h t 2 _ _ _ _ _ ?_ ?_ ?_ ?_ ?_ (x 0) (x 1)).trans ?_
  on_goal 61 => rw [cut_1]; refine (head_at m h t 1 _ _ _ _ _ ?_ ?_ ?_ ?_ ?_ (x 0) (x 1)).trans ?_
  on_goal 67 => refine (head_at m h t 0 _ _ _ _ _ ?_ ?_ ?_ ?_ ?_ (x 0) (x 1)).trans ?_
  all_goals first
    | (intro i e; blk_point [iblk, V, idx t])
    | blk_ext [idx t]
    | blk_point [iblk, V, idx t]

end Cert.KernelIdeal.RefValue

namespace Cert

/-- The name of the score scale stands for the real its literal was rounded from. -/
theorem attention_preserved : Cert.preserves_Kernel_KernelIdeal :=
  IdealRules.named_const.statement Cert.KernelIdeal.κ "scale" .f32 0x3DB504F3#32 (((Real.sqrt 128)⁻¹ : ℝ) : EReal) rfl

/-- The context attention with the Fourier mixing over the extended reals: the kernel's result is the reference's. -/
theorem attention_equal : Cert.algebraic_KernelIdeal_ReferenceIdeal_pre_finite := by
  pair_intro
  run_from Cert.KernelIdeal.Gen.run_main m g
  run_from Cert.ReferenceIdeal.Value.run m' g'
  obtain ⟨e0, e1, e2, e3, e4, e5⟩ := hagree c
  rw [Cert.ReferenceIdeal.Read.val_main_v51_eq, e0, e1, e2, e3, e4, e5]
  exact (Cert.KernelIdeal.RefValue.final m (Cert.KernelIdeal.RefValue.real_of_pre m hpre c)).symm

end Cert

end
-- ==== Proof.InProj.lean ====
/- The normalised, modulated input projection: what every grid point writes is the reference's value there. -/
module

public import proofs.«01_k».proof.Defs
public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.RefValue

open Cert.Kernel2Ideal Cert.Kernel2Ideal.Gen
open Cert.Reference2Ideal.Read

variable (m : (ℓ : Loc nD τ sig) → Buf (Elt Ideal) ℓ)

/-- The windows' block indices at every grid point: row blocks go with the point, the weights stay put. -/
theorem idx : ∀ t : Fin cfg0.N, win0_0.index t = ![t.val, 0] ∧ win0_1.index t = ![0, 0, 0, 0]
    ∧ win0_2.index t = ![0, 0, 0] ∧ win0_3.index t = ![0, 0, 0] ∧ win0_4.index t = ![t.val, 0]
    ∧ win0_5.index t = ![t.val, 0] ∧ win0_6.index t = ![t.val, 0] ∧ t.val < 16 :=
  (by decide +kernel : ∀ t : Fin grid0.N, _)

/-- The reference's modulated row, over the kernel's arguments. -/
abbrev modulated (c : Dev nD) := val_main_v25 (F := Ideal) (m ((c : Thread nD τ).loc main_arg0))
  (m ((c : Thread nD τ).loc main_arg1)) (m ((c : Thread nD τ).loc main_arg2))

/-- What a point's body multiplies with the weights is the reference's modulated row of its block. -/
theorem modulated_at (c : Dev nD) (t : Fin cfg0.N) (r : Fin 512) (k : Fin 2048) (h : t.val * 512 + r.val < 8192) :
    k0_pay14 (F := Ideal) (iblk m c 0 t) (iblk m c 1 t) (iblk m c 2 t) (iblk m c 3 t) (ix2 r k)
      = modulated m c (ix2 ⟨t.val * 512 + r.val, h⟩ k) := by
  pointwise [k0_pay14, k0_pay5, modulated, val_main_v25, val_main_v24, val_main_v23, val_main_v22, val_main_v21,
    val_main_v20, val_main_cst_2, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  blk_point [iblk, V, idx t]

/-- The reference's projection, over the kernel's arguments. -/
abbrev projected (c : Dev nD) := val_main_v28 (F := Ideal) (m ((c : Thread nD τ).loc main_arg0))
  (m ((c : Thread nD τ).loc main_arg1)) (m ((c : Thread nD τ).loc main_arg2)) (m ((c : Thread nD τ).loc main_arg3))

/-- An entry of a product of the block: the modulated row against one column of the weights, as the reference has it. -/
theorem entry_at (c : Dev nD) (t : Fin cfg0.N) (r : Fin 512) (q : Fin 5120) (R : Fin 8192)
    (hR : R.val = t.val * 512 + r.val) :
    ∑ k : Fin 2048, k0_pay14 (F := Ideal) (iblk m c 0 t) (iblk m c 1 t) (iblk m c 2 t) (iblk m c 3 t) (ix2 r k)
        * (show FVec Ideal S1x2048x5120 .bf16 from iblk m c 3 t) (ix3 0 k q)
      = projected m c (ix2 R q) := by
  have hr : t.val * 512 + r.val < 8192 := hR ▸ R.isLt
  obtain rfl : R = ⟨t.val * 512 + r.val, hr⟩ := Fin.ext hR
  refine Eq.trans (Finset.sum_congr rfl fun k _ => ?_) (b := ∑ k : Fin 2048, modulated m c (ix2 ⟨t.val * 512 + r.val, hr⟩ k)
    * val_main_v27 (F := Ideal) (m ((c : Thread nD τ).loc main_arg3)) (ix2 k q)) ?_
  · rw [modulated_at m c t r k hr]
    refine congrArg _ ?_
    pointwise [val_main_v27, val_main_v26]
    blk_point [iblk, V, idx t]
  · pointwise [projected, val_main_v28]

/-- A block of the projection at a place: the reference's projection at the block's row and the same column. -/
theorem tiles (c : Dev nD) (t : Fin cfg0.N) (y : S512x5120.Idx) (R : Fin 8192) (q : Fin 5120)
    (hR : R.val = t.val * 512 + (y 0).val) (hq : q.val = (y 1).val) :
    out0_4 (F := Ideal) (iblk m c 0 t) (iblk m c 1 t) (iblk m c 2 t) (iblk m c 3 t) y
      = projected m c (ix2 R q) := by
  canon_tiles x h
  all_goals
    pointwise [k0_pay1, k0_pay2, k0_pay3, k0_pay4, k0_pay6, k0_pay7, k0_pay8, k0_pay9, k0_pay10, k0_pay11, k0_pay12,
      k0_pay13]
    try rw [← k0_pay14.eq_1 (F := Ideal) (iblk m c 0 t) (iblk m c 1 t) (iblk m c 2 t) (iblk m c 3 t)]
    refine Eq.trans ?_ (entry_at m c t (x 0) q R (by omega))
    blk_point []

/-- What a point's body stores in the block of the projection is the reference's value at the place it sits. -/
theorem point_4 (c : Dev nD) (t : Fin cfg0.N) (y) :
    out0_4 (F := Ideal) (iblk m c 0 t) (iblk m c 1 t) (iblk m c 2 t) (iblk m c 3 t) y
      = val_main_v35 (F := Ideal) (m ((c : Thread nD τ).loc main_arg0)) (m ((c : Thread nD τ).loc main_arg1))
        (m ((c : Thread nD τ).loc main_arg2)) (m ((c : Thread nD τ).loc main_arg3)) (((cfg0.win 4).blk t).view.emb y) := by
  have ht := (idx t).2.2.2.2.2.2.2
  have h0 : (y 0).val < 512 := (y 0).isLt
  have h1 : (y 1).val < 5120 := (y 1).isLt
  refine (tiles m c t y ⟨t.val * 512 + (y 0).val, by omega⟩ ⟨(y 1).val, h1⟩ rfl rfl).trans ?_
  pointwise [val_main_v35]
  blk_ext [idx t]

/-- The same for the block of keys (columns 1536 to 2047 of the projection). -/
theorem point_5 (c : Dev nD) (t : Fin cfg0.N) (y) :
    out0_5 (F := Ideal) (iblk m c 0 t) (iblk m c 1 t) (iblk m c 2 t) (iblk m c 3 t) y
      = val_main_v30 (F := Ideal) (m ((c : Thread nD τ).loc main_arg0)) (m ((c : Thread nD τ).loc main_arg1))
        (m ((c : Thread nD τ).loc main_arg2)) (m ((c : Thread nD τ).loc main_arg3)) (((cfg0.win 5).blk t).view.emb y) := by
  have ht := (idx t).2.2.2.2.2.2.2
  have h0 : (y 0).val < 512 := (y 0).isLt
  have h1 : (y 1).val < 512 := (y 1).isLt
  frame_out
  pointwise [k0_pay9, val_main_v30]
  refine (entry_at m c t (y 0) ⟨1536 + (y 1).val, by omega⟩ ⟨t.val * 512 + (y 0).val, by omega⟩ rfl).trans ?_
  blk_ext [idx t]

/-- The same for the block of values (columns 2048 to 2559 of the projection). -/
theorem point_6 (c : Dev nD) (t : Fin cfg0.N) (y) :
    out0_6 (F := Ideal) (iblk m c 0 t) (iblk m c 1 t) (iblk m c 2 t) (iblk m c 3 t) y
      = val_main_v31 (F := Ideal) (m ((c : Thread nD τ).loc main_arg0)) (m ((c : Thread nD τ).loc main_arg1))
        (m ((c : Thread nD τ).loc main_arg2)) (m ((c : Thread nD τ).loc main_arg3)) (((cfg0.win 6).blk t).view.emb y) := by
  have ht := (idx t).2.2.2.2.2.2.2
  have h0 : (y 0).val < 512 := (y 0).isLt
  have h1 : (y 1).val < 512 := (y 1).isLt
  frame_out
  pointwise [k0_pay11, val_main_v31]
  refine (entry_at m c t (y 0) ⟨2048 + (y 1).val, by omega⟩ ⟨t.val * 512 + (y 0).val, by omega⟩ rfl).trans ?_
  blk_ext [idx t]

/-- The projection after the run. -/
theorem final_4 (c : Dev nD) : (dats m 0 c).arrAt 4 (cfgs 0).N
    = val_main_v35 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point_4 m c t y

/-- The keys after the run. -/
theorem final_5 (c : Dev nD) : (dats m 0 c).arrAt 5 (cfgs 0).N
    = val_main_v30 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  exact point_5 m c t y

/-- The values after the run. -/
theorem final_6 (c : Dev nD) : (dats m 0 c).arrAt 6 (cfgs 0).N
    = val_main_v31 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  blk_simp
  rw [after0_6]
  exact point_6 m c t y

end Cert.Kernel2Ideal.RefValue

namespace Cert

/-- The input projection over the extended reals: the kernel's three results are the reference's. -/
theorem inproj_equal : Cert.algebraic_Kernel2Ideal_Reference2Ideal := by
  pair_intro
  · run_from Cert.Kernel2Ideal.Gen.run_main m g
  · run_from Cert.Reference2Ideal.Value.run m' g'
    · exact (Cert.Kernel2Ideal.RefValue.final_4 m c).symm
    · exact (Cert.Kernel2Ideal.RefValue.final_5 m c).symm
    · exact (Cert.Kernel2Ideal.RefValue.final_6 m c).symm

end Cert
-- ==== Proof.OutProj.lean ====
/- The output projection with its normalised, gated residual: what every grid point writes is the reference's value there. -/
module

public import proofs.«01_k».proof.Defs
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.RefValue

open Cert.Kernel3Ideal Cert.Kernel3Ideal.Gen
open Cert.Reference3Ideal.Read

variable (m : (ℓ : Loc nD τ sig) → Buf (Elt Ideal) ℓ)

/-- The windows' block indices at every grid point. -/
theorem idx : ∀ t : Fin cfg0.N, win0_0.index t = ![t.val, 0] ∧ win0_1.index t = ![t.val, 0]
    ∧ win0_2.index t = ![0, 0, 0] ∧ win0_3.index t = ![0, 3, 0] ∧ win0_4.index t = ![t.val, 0]
    ∧ win0_5.index t = ![0, t.val / 4, 0, 0]
    ∧ win0_6.index t = ![0, 0, 0] ∧ win0_7.index t = ![t.val, 0] ∧ t.val < 8 :=
  (by decide +kernel : ∀ t : Fin grid0.N, _)

/-- The product of the joined parts with the weights, as the reference has it. -/
abbrev projected (c : Dev nD) := val_main_v10 (F := Ideal) (m ((c : Thread nD τ).loc main_arg0))
  (m ((c : Thread nD τ).loc main_arg1)) (m ((c : Thread nD τ).loc main_arg5))

/-- The first 1536 weight rows as staged: no row of that block is cut away. -/
theorem X0_2_at (c : Dev nD) (t : Fin cfg0.N) (k : Fin 1536) (q : Fin 2048) :
    (show FVec Ideal S1x1536x2048 .bf16 from X0_2 m c t) (ix3 0 k q)
      = m ((c : Thread nD τ).loc main_arg5) (ix3 0 ⟨k.val, by omega⟩ q) := by
  have e : (ix3 0 k q : S1x1536x2048.Idx) = (cfg0.win 2).xinj (cfg0.grid.coords t)
      (fun a => ⟨((ix3 0 k q : S1x1536x2048.Idx) a).val, by
        show _ < (cfg0.win 2).xsize (cfg0.grid.coords t) a
        rw [xsize0_2 t a]
        exact ((ix3 0 k q : S1x1536x2048.Idx) a).isLt⟩) := rfl
  rw [e]
  show (cfg0.win 2).fill (cfg0.grid.coords t) dflt0_2 (iblk m c 2 t) _ = _
  rw [Pipeline.Window.fill_xinj]
  blk_ext [iblk, V, idx t]

/-- An entry of the two products of a point added up: the reference's one product over the joined parts. -/
theorem entry_at (c : Dev nD) (t : Fin cfg0.N) (r : Fin 512) (q : Fin 2048) (R : Fin 4096)
    (hR : R.val = t.val * 512 + r.val) :
    ∑ k : Fin 1536, (show FVec Ideal S512x1536 .bf16 from iblk m c 0 t) (ix2 r k)
        * (show FVec Ideal S1x1536x2048 .bf16 from X0_2 m c t) (ix3 0 k q)
      + ∑ k : Fin 512, (show FVec Ideal S512x512 .bf16 from iblk m c 1 t) (ix2 r k)
        * (show FVec Ideal S1x512x2048 .bf16 from iblk m c 3 t) (ix3 0 k q)
      = projected m c (ix2 R q) := by
  simp only [X0_2_at]
  pointwise [projected, val_main_v10, val_main_v9, val_main_v8, val_main_v7, val_main_v6, val_main_v5]
  blk_point [iblk, V, idx t]

theorem final_7 (c : Dev nD) : (dats m 0 c).arrAt 7 (cfgs 0).N
    = val_main_v31 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t _ y => ?_
  have ht := (idx t).2.2.2.2.2.2.2.2
  obtain ⟨r, q, rfl⟩ : ∃ (r : Fin 512) (q : Fin 2048), y = ix2 r q := ⟨y 0, y 1, eq_ix2 y⟩
  blk_simp
  rw [after0_7]
  unfold outsAt0
  frame_out
  pointwise [k0_pay1]
  simp only [entry_at m c t _ _ ⟨t.val * 512 + r.val, by omega⟩ rfl]
  have e : ((View.whole main_v2).slice (win0_7.rect t)).emb (ix2 r q) = ix2 ⟨t.val * 512 + r.val, by omega⟩ q := by
    blk_ext [idx t]
  rw [e]
  pointwise [val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v4,
    val_main_v1, val_main_v0, val_main_cst, val_main_cst_0, val_main_cst_1]
  blk_point [iblk, V, idx t]

end Cert.Kernel3Ideal.RefValue

namespace Cert

/-- The output projection over the extended reals: the kernel's result is the reference's. -/
theorem outproj_equal : Cert.algebraic_Kernel3Ideal_Reference3Ideal := by
  pair_intro
  · run_from Cert.Kernel3Ideal.Gen.run_main m g
  · run_from Cert.Reference3Ideal.Value.run m' g'
    exact (Cert.Kernel3Ideal.RefValue.final_7 m c).symm

end Cert
-- ==== Proof.OutProjLast.lean ====
/- The last layer's output projection, from a mixer output in one part: what every grid point writes is the reference's value there. -/
module

public import proofs.«01_k».proof.Defs
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.RefValue

open Cert.Kernel4Ideal Cert.Kernel4Ideal.Gen
open Cert.Reference4Ideal.Read

variable (m : (ℓ : Loc nD τ sig) → Buf (Elt Ideal) ℓ)

/-- The windows' block indices at every grid point: row blocks go with the point, the last layer's weights stay put. -/
theorem idx : ∀ t : Fin cfg0.N, win0_0.index t = ![t.val, 0] ∧ win0_1.index t = ![3, 0, 0]
    ∧ win0_2.index t = ![t.val, 0] ∧ win0_3.index t = ![3, 0, 0, 0]
    ∧ win0_4.index t = ![3, 0, 0] ∧ win0_5.index t = ![t.val, 0] ∧ t.val < 16 :=
  (by decide +kernel : ∀ t : Fin grid0.N, _)

/-- The product of the mixer's output with the weights, as the reference has it. -/
abbrev projected (c : Dev nD) := val_main_v8 (F := Ideal) (m ((c : Thread nD τ).loc main_arg0))
  (m ((c : Thread nD τ).loc main_arg4))

/-- An entry of a point's product: the reference's product at the block's row. -/
theorem entry_at (c : Dev nD) (t : Fin cfg0.N) (r : Fin 512) (q : Fin 2048) (R : Fin 8192)
    (hR : R.val = t.val * 512 + r.val) :
    ∑ k : Fin 2048, (show FVec Ideal S512x2048 .bf16 from iblk m c 0 t) (ix2 r k)
        * (show FVec Ideal S1x2048x2048 .bf16 from iblk m c 1 t) (ix3 0 k q)
      = projected m c (ix2 R q) := by
  pointwise [projected, val_main_v8, val_main_v7, val_main_v6, val_main_v5]
  blk_point [iblk, V, idx t]

/-- The result's array after the run is the reference's result. -/
theorem final_5 (c : Dev nD) : (dats m 0 c).arrAt 5 (cfgs 0).N
    = val_main_v26 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  have ht := (idx t).2.2.2.2.2.2
  obtain ⟨r, q, rfl⟩ : ∃ (r : Fin 512) (q : Fin 2048), y = ix2 r q := ⟨y 0, y 1, eq_ix2 y⟩
  blk_simp
  rw [after0_5]
  frame_out
  pointwise [k0_pay1]
  simp only [entry_at m c t _ _ ⟨t.val * 512 + r.val, by omega⟩ rfl]
  have e : ((View.whole main_v2).slice (win0_5.rect t)).emb (ix2 r q) = ix2 ⟨t.val * 512 + r.val, by omega⟩ q := by
    blk_ext [idx t]
  rw [e]
  pointwise [val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v4, val_main_v1, val_main_v0, val_main_cst, val_main_cst_0,
    val_main_cst_1]
  blk_point [iblk, V, idx t]

end Cert.Kernel4Ideal.RefValue

namespace Cert

/-- The last layer's output projection over the extended reals: the kernel's result is the reference's. -/
theorem outproj_last_equal : Cert.algebraic_Kernel4Ideal_Reference4Ideal := by
  pair_intro
  · run_from Cert.Kernel4Ideal.Gen.run_main m g
  · run_from Cert.Reference4Ideal.Value.run m' g'
    exact (Cert.Kernel4Ideal.RefValue.final_5 m c).symm

end Cert
-- ==== Proof.Window.lean ====
/- Token windows over 256 positions in 32-bit words: which positions a window of half-width `w` holds, and how many. -/
module

public import Idealize.ShloMosaic.Lib.Pointwise

@[expose] public section

namespace Cert.Window

open Idealize.ShloMosaic

/-- Whether position `x` is among `s - w, …, s + w - 1`, as a one-bit word. -/
def inside (w : ℤ) (s x : Fin 256) : BitVec 1 := BitVec.ofBool (decide ((s.val : ℤ) ≤ x.val + w ∧ (x.val : ℤ) < s.val + w))

/-- How many of the 256 positions are among `s - w, …, s + w - 1`. -/
def size (w : ℤ) (s : Fin 256) : BitVec 32 := BitVec.ofInt 32 (min (s.val + w) 256 - max (s.val - w) 0)

/-- A small integer is read back from its word. -/
theorem toInt_small {n : ℤ} (h : -1000 ≤ n ∧ n ≤ 1000) : (BitVec.ofInt 32 n).toInt = n := by
  rw [BitVec.toInt_ofInt]
  simp only [Int.bmod]
  omega

theorem ofNat_eq (n : ℕ) : BitVec.ofNat 32 n = BitVec.ofInt 32 n := (BitVec.ofInt_natCast 32 n).symm

theorem addi_eq (a b : ℤ) : IntOp.addi (BitVec.ofInt 32 a) (BitVec.ofInt 32 b) = BitVec.ofInt 32 (a + b) := by
  apply BitVec.eq_of_toInt_eq
  simp [IntOp.addi, BitVec.toInt_add, BitVec.toInt_ofInt]

theorem subi_eq (a b : ℤ) : IntOp.subi (BitVec.ofInt 32 a) (BitVec.ofInt 32 b) = BitVec.ofInt 32 (a - b) := by
  apply BitVec.eq_of_toInt_eq
  simp [IntOp.subi, BitVec.toInt_sub, BitVec.toInt_ofInt]

theorem minsi_eq {a b : ℤ} (ha : -1000 ≤ a ∧ a ≤ 1000) (hb : -1000 ≤ b ∧ b ≤ 1000) :
    IntOp.minsi (BitVec.ofInt 32 a) (BitVec.ofInt 32 b) = BitVec.ofInt 32 (min a b) := by
  simp only [IntOp.minsi, BitVec.slt, toInt_small ha, toInt_small hb, decide_eq_true_eq]
  split <;> rename_i h
  · rw [min_eq_left h.le]
  · rw [min_eq_right (not_lt.mp h)]

theorem maxsi_eq {a b : ℤ} (ha : -1000 ≤ a ∧ a ≤ 1000) (hb : -1000 ≤ b ∧ b ≤ 1000) :
    IntOp.maxsi (BitVec.ofInt 32 a) (BitVec.ofInt 32 b) = BitVec.ofInt 32 (max a b) := by
  simp only [IntOp.maxsi, BitVec.slt, toInt_small ha, toInt_small hb, decide_eq_true_eq]
  split <;> rename_i h
  · rw [max_eq_left h.le]
  · rw [max_eq_right (not_lt.mp h)]

/-- Two comparisons of small integers joined: the one bit of both. -/
theorem between {a b c d : ℤ} (ha : -1000 ≤ a ∧ a ≤ 1000) (hb : -1000 ≤ b ∧ b ≤ 1000) (hc : -1000 ≤ c ∧ c ≤ 1000)
    (hd : -1000 ≤ d ∧ d ≤ 1000) :
    IntOp.andi (IntOp.cmpi .sge (BitVec.ofInt 32 a) (BitVec.ofInt 32 b)) (IntOp.cmpi .slt (BitVec.ofInt 32 c) (BitVec.ofInt 32 d))
      = BitVec.ofBool (decide (b ≤ a ∧ c < d)) := by
  simp only [IntOp.andi, IntOp.cmpi, BitVec.slt, BitVec.sle, toInt_small ha, toInt_small hb, toInt_small hc, toInt_small hd,
    BitVec.ofBool_and_ofBool, Bool.decide_and]

variable {w : ℤ} (hw : 0 < w ∧ w ≤ 8) (s x : Fin 256)
include hw

/-- The distance of two positions compared with both ends of the window. -/
theorem inside_of_distance : IntOp.andi
      (IntOp.cmpi .sge (IntOp.subi (IntOp.addi (BitVec.ofNat 32 x.val) 0#32) (BitVec.ofNat 32 s.val)) (BitVec.ofInt 32 (-w)))
      (IntOp.cmpi .slt (IntOp.subi (IntOp.addi (BitVec.ofNat 32 x.val) 0#32) (BitVec.ofNat 32 s.val)) (BitVec.ofInt 32 w))
    = inside w s x := by
  rw [ofNat_eq x.val, ofNat_eq s.val, show (0#32) = BitVec.ofInt 32 0 from rfl, addi_eq, subi_eq, between (by omega) (by omega) (by omega) (by omega)]
  refine congrArg BitVec.ofBool (decide_eq_decide.mpr ?_)
  omega

/-- A position compared with the window's two ends, each clipped to the 256 positions. -/
theorem inside_of_ends : IntOp.andi
      (IntOp.cmpi .sge (BitVec.ofNat 32 x.val)
        (IntOp.minsi 256#32 (IntOp.maxsi 0#32 (IntOp.subi (BitVec.ofNat 32 s.val) (BitVec.ofInt 32 w)))))
      (IntOp.cmpi .slt (BitVec.ofNat 32 x.val)
        (IntOp.minsi 256#32 (IntOp.maxsi 0#32 (IntOp.addi (BitVec.ofNat 32 s.val) (BitVec.ofInt 32 w)))))
    = inside w s x := by
  rw [ofNat_eq x.val, ofNat_eq s.val, show (0#32) = BitVec.ofInt 32 0 from rfl, show (256#32) = BitVec.ofInt 32 256 from rfl, addi_eq, subi_eq,
    maxsi_eq (by omega) (by omega), maxsi_eq (by omega) (by omega), minsi_eq (by omega) (by omega), minsi_eq (by omega) (by omega),
    between (by omega) (by omega) (by omega) (by omega)]
  refine congrArg BitVec.ofBool (decide_eq_decide.mpr ?_)
  omega

/-- The size from ends of which each is cut on its own side only. -/
theorem size_of_cut : IntOp.subi
      (IntOp.minsi (IntOp.addi (IntOp.addi 0#32 (BitVec.ofNat 32 s.val)) (BitVec.ofInt 32 w)) 256#32)
      (IntOp.maxsi (IntOp.subi (IntOp.addi 0#32 (BitVec.ofNat 32 s.val)) (BitVec.ofInt 32 w)) 0#32)
    = size w s := by
  rw [ofNat_eq s.val, show (0#32) = BitVec.ofInt 32 0 from rfl, show (256#32) = BitVec.ofInt 32 256 from rfl, addi_eq, addi_eq, subi_eq,
    maxsi_eq (by omega) (by omega), minsi_eq (by omega) (by omega), subi_eq, zero_add]
  rfl

/-- The size from ends that are both clipped to the 256 positions. -/
theorem size_of_ends : IntOp.subi
      (IntOp.minsi 256#32 (IntOp.maxsi 0#32 (IntOp.addi (BitVec.ofNat 32 s.val) (BitVec.ofInt 32 w))))
      (IntOp.minsi 256#32 (IntOp.maxsi 0#32 (IntOp.subi (BitVec.ofNat 32 s.val) (BitVec.ofInt 32 w))))
    = size w s := by
  rw [ofNat_eq s.val, show (0#32) = BitVec.ofInt 32 0 from rfl, show (256#32) = BitVec.ofInt 32 256 from rfl, addi_eq, subi_eq,
    maxsi_eq (by omega) (by omega), maxsi_eq (by omega) (by omega), minsi_eq (by omega) (by omega), minsi_eq (by omega) (by omega), subi_eq]
  refine congrArg (BitVec.ofInt 32) ?_
  omega

end Cert.Window
-- ==== Proof.OddMixerReference.lean ====
/- The odd layer's reference read at an index: the windows' means, the channel mixing, the normalised groups, the position
   mixing and the gates. -/
module

public import proofs.«01_k».proof.Proof.Gen.Reference5Ideal.Read
public import proofs.«01_k».proof.Proof.Softmax
public import proofs.«01_k».proof.Proof.Window
public import Idealize.ShloMosaic.Lib.Pointwise

@[expose] public section

set_option maxRecDepth 16384

noncomputable section

open Idealize.ShloMosaic Idealize.ShloMosaic.TcCoe Idealize.SL.Sem
open scoped BigOperators

namespace Cert.Reference5Ideal.RefValue

open Cert.Reference5Ideal Cert.Reference5Ideal.Gen
open Cert.Reference5Ideal.Read

variable (x0 : FVec Ideal S8192x5120 .bf16) (x1 : FVec Ideal S2x4x256x256 .f32) (x2 x3 : FVec Ideal S2x1024 .f32)
  (x4 : FVec Ideal S2x4x128x128 .f32) (x5 : FVec Ideal S2x4x128 .f32) (B : Fin 32) (s : Fin 256)

/-- Half the width of group `g`'s window: 1, 2, 4, 8. -/
def half (g : Fin 4) : ℤ := 2 ^ g.val

theorem half_range (g : Fin 4) : 0 < half g ∧ half g ≤ 8 := (by decide : ∀ g : Fin 4, 0 < half g ∧ half g ≤ 8) g

/-- The four half widths joined into one row. -/
theorem half_at (g : Fin 4) : val_main_v18 (F := Ideal) (ix1 g) = BitVec.ofInt 32 (half g) := by
  pointwise [val_main_v18, val_main_v17, val_main_v16, val_main_v15, val_main_v14, val_main_c, val_main_c_0, val_main_c_1, val_main_c_2]
  revert g
  decide

/-- The reference's mask: the positions of the group's window. -/
theorem window_at (x : Fin 256) (g : Fin 4) : val_main_v43 (F := Ideal) (ix3 s x g) = Cert.Window.inside (half g) s x := by
  rw [← Cert.Window.inside_of_ends (half_range g), ← half_at]
  pointwise [val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v13, val_main_call1_v4, val_main_call1_v3, val_main_call1_v2,
    val_main_call1_v1, val_main_call1_v0, val_main_call2_v4, val_main_call2_v3, val_main_call2_v2, val_main_call2_v1,
    val_main_call2_v0, val_main_c_3, val_main_c_4, val_main_c_5, val_main_c_6]
  rfl

/-- The reference's count: the size of the group's window. -/
theorem size_at (g : Fin 4) : val_main_v48 (F := Ideal) (ix2 s g) = Cert.Window.size (half g) s := by
  rw [← Cert.Window.size_of_ends (half_range g), ← half_at]
  pointwise [val_main_v48, val_main_v32, val_main_v31, val_main_v30,
    val_main_v29, val_main_v28, val_main_v27, val_main_v26, val_main_v25, val_main_v24, val_main_v23, val_main_v22,
    val_main_v21, val_main_v20, val_main_v19, val_main_v13, val_main_call1_v4, val_main_call1_v3, val_main_call1_v2,
    val_main_call1_v1, val_main_call1_v0, val_main_call2_v4, val_main_call2_v3, val_main_call2_v2, val_main_call2_v1,
    val_main_call2_v0, val_main_c_3, val_main_c_4, val_main_c_5, val_main_c_6]
  rfl

/-- A pooled entry: the window's sum over its size, less the token itself. -/
theorem pooled_at (g : Fin 4) (e : Fin 256) : val_main_v54 (F := Ideal) x0 (ix4 B s g e)
    = Ideal.div (∑ x : Fin 256, Scalar.select (Cert.Window.inside (half g) s x)
          (x0 (ix2 ⟨B.val * 256 + x.val, by omega⟩ ⟨g.val * 256 + e.val, by omega⟩)) 0)
        (FloatOps.sitofp (F := Ideal) .f32 (Cert.Window.size (half g) s))
      - x0 (ix2 ⟨B.val * 256 + s.val, by omega⟩ ⟨g.val * 256 + e.val, by omega⟩) := by
  simp only [← window_at, ← size_at]
  pointwise [val_main_v54, val_main_v53, val_main_v52, val_main_v51, val_main_v50, val_main_v49, val_main_v47, val_main_v46,
    val_main_call3_v3, val_main_call3_v2, val_main_call3_v1, val_main_call3_v0, val_main_cst, val_main_cst_7, val_main_v45,
    val_main_v44, val_main_v12, val_main_v2, val_main_v1, val_main_v0, id_eq]

/-- The pooling's gate, as the kernel spells the logistic product. -/
theorem pool_gate_at (q : Fin 1024) : val_main_v7 (F := Ideal) x0 (ix3 B s q)
    = Ideal.div (x0 (ix2 ⟨B.val * 256 + s.val, by omega⟩ ⟨1024 + q.val, by omega⟩))
        (1 + Ideal.exp (0 - x0 (ix2 ⟨B.val * 256 + s.val, by omega⟩ ⟨1024 + q.val, by omega⟩))) := by
  rw [Cert.Softmax.silu_eq]
  pointwise [val_main_v7, val_main_call0_v5, val_main_call0_v4, val_main_call0_v3, val_main_call0_v2,
    val_main_call0_v1, val_main_call0_v0, val_main_call0_cst, val_main_call0_cst_0, val_main_v3, val_main_v1, val_main_v0]

/-- The position mixing's gate, as the kernel spells the logistic product. -/
theorem mixing_gate_at (q : Fin 1024) : val_main_v62 (F := Ideal) x0 (ix3 B s q)
    = Ideal.div (x0 (ix2 ⟨B.val * 256 + s.val, by omega⟩ ⟨4096 + q.val, by omega⟩))
        (1 + Ideal.exp (0 - x0 (ix2 ⟨B.val * 256 + s.val, by omega⟩ ⟨4096 + q.val, by omega⟩))) := by
  rw [Cert.Softmax.silu_eq]
  pointwise [val_main_v62, val_main_call4_v5, val_main_call4_v4, val_main_call4_v3, val_main_call4_v2,
    val_main_call4_v1, val_main_call4_v0, val_main_call4_cst, val_main_call4_cst_0, val_main_v6, val_main_v1, val_main_v0]

/-- The mean of a token's group of channels. -/
abbrev mean (h : Fin 4) : EReal :=
  Ideal.div (∑ e : Fin 256, x0 (ix2 ⟨B.val * 256 + s.val, by omega⟩ ⟨3072 + (h.val * 256 + e.val), by omega⟩)) (Ideal.ofBits .f32 0x43800000#32)

/-- A normalised entry: the distance from the group's mean over the group's deviation, times the channel's scale. -/
theorem normalised_at (h : Fin 4) (d : Fin 256) : val_main_v91 (F := Ideal) x0 x3 (ix4 B s h d)
    = (x0 (ix2 ⟨B.val * 256 + s.val, by omega⟩ ⟨3072 + (h.val * 256 + d.val), by omega⟩) - mean x0 B s h)
        * Ideal.rsqrt (Ideal.div (∑ e : Fin 256,
            (x0 (ix2 ⟨B.val * 256 + s.val, by omega⟩ ⟨3072 + (h.val * 256 + e.val), by omega⟩) - mean x0 B s h)
              * (x0 (ix2 ⟨B.val * 256 + s.val, by omega⟩ ⟨3072 + (h.val * 256 + e.val), by omega⟩) - mean x0 B s h))
            (Ideal.ofBits .f32 0x43800000#32) + Ideal.ofBits .f32 0x358637BD#32)
        * x3 (ix2 0 ⟨h.val * 256 + d.val, by omega⟩) := by
  pointwise [mean, val_main_v91, val_main_v90, val_main_v89, val_main_v88, val_main_v87, val_main_v86, val_main_v85, val_main_v84,
    val_main_v83, val_main_v82, val_main_v81, val_main_v80, val_main_v79, val_main_v78, val_main_v77, val_main_v76,
    val_main_v75, val_main_v74, val_main_v73, val_main_v72, val_main_v71, val_main_v70, val_main_v69, val_main_v64,
    val_main_v63, val_main_v5, val_main_v1, val_main_v0, val_main_cst_8, val_main_cst_9, val_main_cst_10, val_main_cst_11,
    val_main_cst_12]

/-- The result's first 1024 columns are the gated pooling. -/
theorem result_pool_at (q : Fin 1024) :
    val_main_v104 (F := Ideal) x0 x1 x2 x3 x4 x5 (ix2 ⟨B.val * 256 + s.val, by omega⟩ ⟨q.val, by omega⟩)
      = val_main_v7 (F := Ideal) x0 (ix3 B s q)
        * ((∑ e : Fin 256, x1 (ix4 0 ⟨q.val / 256, by omega⟩ e ⟨q.val % 256, by omega⟩)
            * val_main_v54 (F := Ideal) x0 (ix4 B s ⟨q.val / 256, by omega⟩ e)) * x2 (ix2 0 q)) := by
  have e : val_main_v104 (F := Ideal) x0 x1 x2 x3 x4 x5 (ix2 ⟨B.val * 256 + s.val, by omega⟩ ⟨q.val, by omega⟩)
      = val_main_v61 (F := Ideal) x0 x1 x2 (ix3 B s q) := by
    pointwise [val_main_v104, val_main_v103, val_main_v102]
  rw [e, val_main_v61_apply]
  refine congrArg₂ (· * ·) rfl ?_
  pointwise [val_main_v60, val_main_v59, val_main_v58, val_main_v57, val_main_v56, val_main_v55, val_main_v11, val_main_v10,
    val_main_v9, val_main_v8]

/-- The result's last 1024 columns are the gated position mixing. -/
theorem result_mixing_at (q : Fin 1024) :
    val_main_v104 (F := Ideal) x0 x1 x2 x3 x4 x5 (ix2 ⟨B.val * 256 + s.val, by omega⟩ ⟨1024 + q.val, by omega⟩)
      = val_main_v62 (F := Ideal) x0 (ix3 B s q)
        * (x0 (ix2 ⟨B.val * 256 + s.val, by omega⟩ ⟨2048 + q.val, by omega⟩)
          * ((∑ y : Fin 128, val_main_v91 (F := Ideal) x0 x3
                (ix4 B ⟨s.val / 128 * 128 + y.val, by omega⟩ ⟨q.val / 256, by omega⟩ ⟨q.val % 256, by omega⟩)
              * x4 (ix4 0 ⟨q.val / 256, by omega⟩ ⟨s.val % 128, by omega⟩ y))
            + x5 (ix3 0 ⟨q.val / 256, by omega⟩ ⟨s.val % 128, by omega⟩))) := by
  have e : val_main_v104 (F := Ideal) x0 x1 x2 x3 x4 x5 (ix2 ⟨B.val * 256 + s.val, by omega⟩ ⟨1024 + q.val, by omega⟩)
      = val_main_v101 (F := Ideal) x0 x3 x4 x5 (ix3 B s q) := by
    pointwise [val_main_v104, val_main_v103, val_main_v102]
  rw [e, val_main_v101_apply]
  refine congrArg₂ (· * ·) rfl ?_
  pointwise [val_main_v100, val_main_v99, val_main_v98, val_main_v97, val_main_v96, val_main_v95, val_main_v94, val_main_v93,
    val_main_v92, val_main_v68, val_main_v67, val_main_v66, val_main_v65, val_main_v4, val_main_v1, val_main_v0]

end Cert.Reference5Ideal.RefValue

end
-- ==== Proof.OddMixer.lean ====
/- The odd layer's mixer: the windowed means, their channel mixing and the gated position mixing, tile by tile. -/
module

public import proofs.«01_k».proof.Defs
public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise
public import Idealize.ShloMosaic.Lib.Claim
public import proofs.«01_k».proof.Proof.OddMixerReference

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.RefValue

open Cert.Kernel5Ideal Cert.Kernel5Ideal.Gen
open Cert.Reference5Ideal.Read Cert.Reference5Ideal.RefValue

variable (m : (ℓ : Loc nD τ sig) → Buf (Elt Ideal) ℓ)

/-- The windows' block indices at every grid point; the second grid axis has one point. -/
theorem idx : ∀ t : Fin cfg0.N, win0_0.index t = ![t.val, 0] ∧ win0_1.index t = ![t.val, 1]
    ∧ win0_2.index t = ![t.val, 2] ∧ win0_3.index t = ![t.val, 3] ∧ win0_4.index t = ![t.val, 4]
    ∧ win0_5.index t = ![0, 0, 0, 0] ∧ win0_6.index t = ![0, 0, 0] ∧ win0_7.index t = ![0, 0, 0]
    ∧ win0_8.index t = ![0, 0, 0, 0] ∧ win0_9.index t = ![0, 0, 0] ∧ win0_10.index t = ![t.val, 0]
    ∧ (grid0.coords t 1).val = 0 ∧ t.val < 32 :=
  (by decide +kernel : ∀ t : Fin grid0.N, _)

/-- Where the pooling's blocks start: the group's columns of the one tile of rows. -/
theorem offs : ∀ t : Fin cfg0.N, k0_off1 (grid0.coords t) = ![0, 0] ∧ k0_off2 (grid0.coords t) = ![0, 0]
    ∧ k0_off3 (grid0.coords t) = ![0, 256] ∧ k0_off4 (grid0.coords t) = ![0, 256]
    ∧ k0_off5 (grid0.coords t) = ![0, 512] ∧ k0_off6 (grid0.coords t) = ![0, 512]
    ∧ k0_off7 (grid0.coords t) = ![0, 768] ∧ k0_off8 (grid0.coords t) = ![0, 768] :=
  (by decide +kernel : ∀ t : Fin grid0.N, _)

theorem lt (t : Fin cfg0.N) : t.val < 32 := (idx t).2.2.2.2.2.2.2.2.2.2.2.2

theorem axis (t : Fin cfg0.N) : (grid0.coords t 1).val = 0 := (idx t).2.2.2.2.2.2.2.2.2.2.2.1

/-- The kernel's arguments: the projected tokens, the pooling's matrices and scales, the position mixing's norm, matrices
    and biases. -/
abbrev tokens (c : Dev nD) : FVec Ideal S8192x5120 .bf16 := m ((c : Thread nD τ).loc main_arg0)
abbrev poolW (c : Dev nD) : FVec Ideal S2x4x256x256 .f32 := m ((c : Thread nD τ).loc main_arg1)
abbrev poolS (c : Dev nD) : FVec Ideal S2x1024 .f32 := m ((c : Thread nD τ).loc main_arg2)
abbrev mixN (c : Dev nD) : FVec Ideal S2x1024 .f32 := m ((c : Thread nD τ).loc main_arg3)
abbrev mixW (c : Dev nD) : FVec Ideal S2x4x128x128 .f32 := m ((c : Thread nD τ).loc main_arg4)
abbrev mixB (c : Dev nD) : FVec Ideal S2x4x128 .f32 := m ((c : Thread nD τ).loc main_arg5)

/-- The reference's result of the kernel's arguments. -/
abbrev result (c : Dev nD) : FVec Ideal S8192x2048 .bf16 :=
  val_main_v104 (F := Ideal) (tokens m c) (poolW m c) (poolS m c) (mixN m c) (mixW m c) (mixB m c)

/-! ### The pooling's tiles at an index -/

section Pooling
variable (i : grid0.Coords) (hi : (i 1).val = 0) (u us : FVec Ideal S256x256 .bf16) (pw : FVec Ideal S1x1x256x256 .bf16)
  (ps : FVec Ideal S1x1x256 .f32) (gate : FVec Ideal S256x256 .bf16) (s d : Fin 256)

/-- The pooling of one group: the gate times the mixed and scaled distances to the window's mean. -/
def poolAt (g : Fin 4) : EReal :=
  Ideal.div (gate (ix2 s d)) (1 + Ideal.exp (0 - gate (ix2 s d)))
    * ((∑ e : Fin 256, (Ideal.div (∑ x : Fin 256, Scalar.select (Cert.Window.inside (half g) s x) (u (ix2 x e)) 0)
          (FloatOps.sitofp (F := Ideal) .f32 (Cert.Window.size (half g) s)) - us (ix2 s e)) * pw (ix4 0 0 e d))
      * ps (ix3 0 0 d))

/-- The tile of rows starts at the first row, and so does the slab its windows are cut from. -/
theorem start : Scalar.muli 0#32 256#32 = 0#32 := by decide

theorem shift : Scalar.subi (Scalar.minsi 0#32 (Scalar.maxsi 0#32 (Scalar.subi 0#32 128#32))) 0#32 = 0#32 := by decide

/-- The half widths as words, and their negatives. -/
theorem words : BitVec.ofInt 32 (half 0) = 1#32 ∧ BitVec.ofInt 32 (-half 0) = 4294967295#32
    ∧ BitVec.ofInt 32 (half 1) = 2#32 ∧ BitVec.ofInt 32 (-half 1) = 4294967294#32
    ∧ BitVec.ofInt 32 (half 2) = 4#32 ∧ BitVec.ofInt 32 (-half 2) = 4294967292#32
    ∧ BitVec.ofInt 32 (half 3) = 8#32 ∧ BitVec.ofInt 32 (-half 3) = 4294967288#32 := by decide

include hi

theorem pool_tile_0 : k0_pay5 (F := Ideal) (k0_pay4 i u) us pw ps gate (ix2 s d) = poolAt u us pw ps gate s d 0 := by
  simp only [poolAt, ← Cert.Window.inside_of_distance (half_range 0), ← Cert.Window.size_of_cut (half_range 0), words]
  pointwise [k0_pay5, k0_pay4, k0_pay3, k0_pay2]
  simp only [start, shift]

theorem pool_tile_1 : k0_pay8 (F := Ideal) (k0_pay3 i) (k0_pay6 (k0_pay2 i) u) (k0_pay7 (k0_pay3 i)) us pw ps gate (ix2 s d)
    = poolAt u us pw ps gate s d 1 := by
  simp only [poolAt, ← Cert.Window.inside_of_distance (half_range 1), ← Cert.Window.size_of_cut (half_range 1), words]
  pointwise [k0_pay8, k0_pay7, k0_pay6, k0_pay3, k0_pay2]
  simp only [start, shift]

theorem pool_tile_2 : k0_pay12 (F := Ideal) (k0_pay3 i) (k0_pay9 (k0_pay2 i)) k0_pay10 k0_pay11 u us pw ps gate (ix2 s d)
    = poolAt u us pw ps gate s d 2 := by
  simp only [poolAt, ← Cert.Window.inside_of_distance (half_range 2), ← Cert.Window.size_of_cut (half_range 2), words]
  pointwise [k0_pay12, k0_pay11, k0_pay10, k0_pay9, k0_pay3, k0_pay2]
  simp only [start, shift]

theorem pool_tile_3 : k0_pay14 (F := Ideal) (k0_pay13 (k0_pay2 i) (k0_pay3 i) u us pw ps) gate (ix2 s d)
    = poolAt u us pw ps gate s d 3 := by
  simp only [poolAt, ← Cert.Window.inside_of_distance (half_range 3), ← Cert.Window.size_of_cut (half_range 3), words]
  pointwise [k0_pay14, k0_pay13, k0_pay3, k0_pay2]
  simp only [start, shift]

end Pooling

/-! ### The position mixing's tiles: the same function of their blocks however the body is cut into payloads -/

section Mixing
variable (v : FVec Ideal S256x256 .bf16) (sn : FVec Ideal S1x1x256 .f32) (sb : FVec Ideal S1x128x1 .f32)
  (sw : FVec Ideal S1x1x128x128 .bf16) (ud gd : FVec Ideal S128x256 .bf16)

/-- The tile of a group's first half of the positions, and of its second half. -/
abbrev upper := k0_pay19 (F := Ideal) (k0_pay16 sb) (k0_pay17 sw) (k0_pay18 v sn) ud gd
abbrev lower := k0_pay20 (F := Ideal) (k0_pay15 v sn) (k0_pay16 sb) sw ud gd

theorem upper_1 : k0_pay25 (k0_pay23 v sn sb sw ud) (k0_pay24 gd) (FloatOps.ofBits .f32 0#32) = upper v sn sb sw ud gd := rfl
theorem lower_1 : k0_pay26 (k0_pay21 v sn) (k0_pay22 sb) sw ud gd = lower v sn sb sw ud gd := rfl
theorem upper_2 : k0_pay31 (k0_pay27 v) (k0_pay28 v) sn sb sw ud gd = upper v sn sb sw ud gd := rfl
theorem lower_2 : k0_pay32 (k0_pay29 (k0_pay27 v) (k0_pay28 v) sn) (k0_pay30 sb) sw ud gd = lower v sn sb sw ud gd := rfl
theorem upper_3 : k0_pay36 (k0_pay33 v) sn sb sw ud gd = upper v sn sb sw ud gd := rfl
theorem lower_3 : k0_pay1 (k0_pay37 (k0_pay33 v) sn sb sw) (k0_pay38 ud) gd = lower v sn sb sw ud gd := rfl

/-- A channel of a group of 256, its distance from the mean over the deviation, times its scale. -/
def normed (u : Fin 256 → EReal) (σ : EReal) (d : Fin 256) : EReal :=
  (u d - Ideal.div (∑ e : Fin 256, u e) (Ideal.ofBits .f32 0x43800000#32))
    * Ideal.rsqrt (Ideal.div (∑ e : Fin 256, (u e - Ideal.div (∑ e : Fin 256, u e) (Ideal.ofBits .f32 0x43800000#32))
        * (u e - Ideal.div (∑ e : Fin 256, u e) (Ideal.ofBits .f32 0x43800000#32)))
      (Ideal.ofBits .f32 0x43800000#32) + Ideal.ofBits .f32 0x358637BD#32) * σ

/-- The gated mixing of 128 positions whose row `y` of the group is `row y`. -/
def mixAt (row : Fin 128 → Fin 256) (y : Fin 128) (d : Fin 256) : EReal :=
  Ideal.div (gd (ix2 y d)) (1 + Ideal.exp (0 - gd (ix2 y d)))
    * (ud (ix2 y d) * ((∑ x : Fin 128, sw (ix4 0 0 y x) * normed (fun e => v (ix2 (row x) e)) (sn (ix3 0 0 d)) d)
      + sb (ix3 0 y 0)))

theorem upper_at (y : Fin 128) (d : Fin 256) : upper v sn sb sw ud gd (ix2 y d)
    = mixAt v sn sb sw ud gd (fun x => ⟨x.val, by omega⟩) y d := by
  pointwise [mixAt, normed, k0_pay19, k0_pay18, k0_pay17, k0_pay16, k0_pay15]

theorem lower_at (y : Fin 128) (d : Fin 256) : lower v sn sb sw ud gd (ix2 y d)
    = mixAt v sn sb sw ud gd (fun x => ⟨128 + x.val, by omega⟩) y d := by
  pointwise [mixAt, normed, k0_pay20, k0_pay16, k0_pay15]

end Mixing

/-! ### The tiles against the reference -/

/-- A group's pooling against the reference, from blocks that read the group's columns and its matrix. -/
theorem pool_at (c : Dev nD) (t : Fin cfg0.N) (g : Fin 4) (u us : FVec Ideal S256x256 .bf16) (pw : FVec Ideal S1x1x256x256 .bf16)
    (ps : FVec Ideal S1x1x256 .f32) (gate : FVec Ideal S256x256 .bf16)
    (hu : ∀ x e, u (ix2 x e) = tokens m c (ix2 ⟨t.val * 256 + x.val, by have := lt t; omega⟩ ⟨g.val * 256 + e.val, by omega⟩))
    (hs : ∀ x e, us (ix2 x e) = tokens m c (ix2 ⟨t.val * 256 + x.val, by have := lt t; omega⟩ ⟨g.val * 256 + e.val, by omega⟩))
    (hw : ∀ e d, pw (ix4 0 0 e d) = poolW m c (ix4 0 g e d))
    (hp : ∀ d, ps (ix3 0 0 d) = poolS m c (ix2 0 ⟨g.val * 256 + d.val, by omega⟩))
    (hg : ∀ x e, gate (ix2 x e)
      = tokens m c (ix2 ⟨t.val * 256 + x.val, by have := lt t; omega⟩ ⟨1024 + (g.val * 256 + e.val), by omega⟩))
    (s d : Fin 256) : poolAt u us pw ps gate s d g
      = result m c (ix2 ⟨t.val * 256 + s.val, by have := lt t; omega⟩ ⟨g.val * 256 + d.val, by omega⟩) := by
  refine Eq.trans ?_ (result_pool_at _ _ _ _ _ _ ⟨t.val, lt t⟩ s ⟨g.val * 256 + d.val, by omega⟩).symm
  have hq : (⟨(g.val * 256 + d.val) / 256, by omega⟩ : Fin 4) = g := Fin.ext (by show (g.val * 256 + d.val) / 256 = g.val; omega)
  have hr : (⟨(g.val * 256 + d.val) % 256, by omega⟩ : Fin 256) = d := Fin.ext (by show (g.val * 256 + d.val) % 256 = d.val; omega)
  simp only [hq, hr, pool_gate_at, pooled_at, poolAt, hu, hs, hw, hp, hg]
  exact congrArg₂ (· * ·) rfl (congrArg (· * _) (Finset.sum_congr rfl fun e _ => mul_comm _ _))

/-- A group's position mixing of one half `b` of the positions against the reference, from blocks that read the group's columns,
    its norm, matrix and bias. -/
theorem mix_at (c : Dev nD) (t : Fin cfg0.N) (g : Fin 4) (b : Fin 2) (v : FVec Ideal S256x256 .bf16) (sn : FVec Ideal S1x1x256 .f32)
    (sb : FVec Ideal S1x128x1 .f32) (sw : FVec Ideal S1x1x128x128 .bf16) (ud gd : FVec Ideal S128x256 .bf16)
    (row : Fin 128 → Fin 256) (hrow : ∀ x, (row x).val = b.val * 128 + x.val)
    (hv : ∀ x e, v (ix2 x e)
      = tokens m c (ix2 ⟨t.val * 256 + x.val, by have := lt t; omega⟩ ⟨3072 + (g.val * 256 + e.val), by omega⟩))
    (hn : ∀ d, sn (ix3 0 0 d) = mixN m c (ix2 0 ⟨g.val * 256 + d.val, by omega⟩))
    (hb : ∀ y, sb (ix3 0 y 0) = mixB m c (ix3 0 g y))
    (hw : ∀ y x, sw (ix4 0 0 y x) = mixW m c (ix4 0 g y x))
    (hu : ∀ y e, ud (ix2 y e) = tokens m c
      (ix2 ⟨t.val * 256 + (b.val * 128 + y.val), by have := lt t; omega⟩ ⟨2048 + (g.val * 256 + e.val), by omega⟩))
    (hg : ∀ y e, gd (ix2 y e) = tokens m c
      (ix2 ⟨t.val * 256 + (b.val * 128 + y.val), by have := lt t; omega⟩ ⟨4096 + (g.val * 256 + e.val), by omega⟩))
    (y : Fin 128) (d : Fin 256) : mixAt v sn sb sw ud gd row y d
      = result m c (ix2 ⟨t.val * 256 + (b.val * 128 + y.val), by have := lt t; omega⟩ ⟨1024 + (g.val * 256 + d.val), by omega⟩) := by
  refine Eq.trans ?_ (result_mixing_at _ _ _ _ _ _ ⟨t.val, lt t⟩ ⟨b.val * 128 + y.val, by omega⟩ ⟨g.val * 256 + d.val, by omega⟩).symm
  have hq : (⟨(g.val * 256 + d.val) / 256, by omega⟩ : Fin 4) = g := Fin.ext (by show (g.val * 256 + d.val) / 256 = g.val; omega)
  have hr : (⟨(g.val * 256 + d.val) % 256, by omega⟩ : Fin 256) = d := Fin.ext (by show (g.val * 256 + d.val) % 256 = d.val; omega)
  have hy : (⟨(b.val * 128 + y.val) % 128, by omega⟩ : Fin 128) = y := Fin.ext (by show (b.val * 128 + y.val) % 128 = y.val; omega)
  have hR : ∀ x : Fin 128, (⟨(b.val * 128 + y.val) / 128 * 128 + x.val, by omega⟩ : Fin 256) = row x := fun x =>
    Fin.ext ((show (b.val * 128 + y.val) / 128 * 128 + x.val = b.val * 128 + x.val by omega).trans (hrow x).symm)
  simp only [hq, hr, hy, hR, mixing_gate_at, normalised_at, mean, mixAt, normed, hv, hn, hb, hw, hu, hg]
  exact congrArg₂ (· * ·) rfl (congrArg₂ (· * ·) rfl (congrArg (· + _) (Finset.sum_congr rfl fun e _ => mul_comm _ _)))

/-- A row of 1024 read through its added axis of length one. -/
theorem row_cast (a : FVec Ideal S2x1024 .f32) (j : S2x1x1024.Idx) :
    shapeCast S2x1x1024 a shapeCasts_S2x1024_S2x1x1024 j = a (ix2 (j 0) (j 2)) := by
  rw [eq_ix3 j]
  pointwise

/-- The biases read through the swap of their last two axes. -/
theorem bias_swap (a : FVec Ideal S2x4x128 .f32) (j : S2x128x4.Idx) :
    transpose S2x128x4 [0, 2, 1] a transposes_S2x4x128_S2x128x4_0_2_1 j = a (ix3 (j 0) (j 2) (j 1)) := by
  rw [eq_ix3 j]
  pointwise

set_option maxHeartbeats 4000000 in
/-- The result after the run. -/
theorem final (c : Dev nD) : (dats m 0 c).arrAt 10 (cfgs 0).N = result m c := by
  refine (dats m 0 c).arrAt_eq_of_covers 10 _ (by decide +kernel) fun t hf y => ?_
  blk_simp; rw [after0_10]
  unfold outsAt0
  frame_out
  canon_tiles x hx using View.cover_of_tiledBy _ ![128, 256] (by sl_kernel_rfl) _
  all_goals rw [eq_ix2 x]
  on_goal 1 => rw [lower_3]; refine (lower_at _ _ _ _ _ _ (x 0) (x 1)).trans ((mix_at m c t 3 1 _ _ _ _ _ _ _ ?_ ?_ ?_ ?_ ?_ ?_ ?_ (x 0) (x 1)).trans ?_)
  on_goal 9 => rw [upper_3]; refine (upper_at _ _ _ _ _ _ (x 0) (x 1)).trans ((mix_at m c t 3 0 _ _ _ _ _ _ _ ?_ ?_ ?_ ?_ ?_ ?_ ?_ (x 0) (x 1)).trans ?_)
  on_goal 17 => rw [lower_2]; refine (lower_at _ _ _ _ _ _ (x 0) (x 1)).trans ((mix_at m c t 2 1 _ _ _ _ _ _ _ ?_ ?_ ?_ ?_ ?_ ?_ ?_ (x 0) (x 1)).trans ?_)
  on_goal 25 => rw [upper_2]; refine (upper_at _ _ _ _ _ _ (x 0) (x 1)).trans ((mix_at m c t 2 0 _ _ _ _ _ _ _ ?_ ?_ ?_ ?_ ?_ ?_ ?_ (x 0) (x 1)).trans ?_)
  on_goal 33 => rw [lower_1]; refine (lower_at _ _ _ _ _ _ (x 0) (x 1)).trans ((mix_at m c t 1 1 _ _ _ _ _ _ _ ?_ ?_ ?_ ?_ ?_ ?_ ?_ (x 0) (x 1)).trans ?_)
  on_goal 41 => rw [upper_1]; refine (upper_at _ _ _ _ _ _ (x 0) (x 1)).trans ((mix_at m c t 1 0 _ _ _ _ _ _ _ ?_ ?_ ?_ ?_ ?_ ?_ ?_ (x 0) (x 1)).trans ?_)
  on_goal 49 => refine (lower_at _ _ _ _ _ _ (x 0) (x 1)).trans ((mix_at m c t 0 1 _ _ _ _ _ _ _ ?_ ?_ ?_ ?_ ?_ ?_ ?_ (x 0) (x 1)).trans ?_)
  on_goal 57 => refine (upper_at _ _ _ _ _ _ (x 0) (x 1)).trans ((mix_at m c t 0 0 _ _ _ _ _ _ _ ?_ ?_ ?_ ?_ ?_ ?_ ?_ (x 0) (x 1)).trans ?_)
  on_goal 65 => refine (pool_tile_3 _ (axis t) _ _ _ _ _ (x 0) (x 1)).trans ((pool_at m c t 3 _ _ _ _ _ ?_ ?_ ?_ ?_ ?_ (x 0) (x 1)).trans ?_)
  on_goal 71 => refine (pool_tile_2 _ (axis t) _ _ _ _ _ (x 0) (x 1)).trans ((pool_at m c t 2 _ _ _ _ _ ?_ ?_ ?_ ?_ ?_ (x 0) (x 1)).trans ?_)
  on_goal 77 => refine (pool_tile_1 _ (axis t) _ _ _ _ _ (x 0) (x 1)).trans ((pool_at m c t 1 _ _ _ _ _ ?_ ?_ ?_ ?_ ?_ (x 0) (x 1)).trans ?_)
  on_goal 83 => refine (pool_tile_0 _ (axis t) _ _ _ _ _ (x 0) (x 1)).trans ((pool_at m c t 0 _ _ _ _ _ ?_ ?_ ?_ ?_ ?_ (x 0) (x 1)).trans ?_)
  all_goals first
    | (intro i; show (_ : ℕ) = _; first | rfl | exact (Nat.zero_add _).symm | omega)
    | (intro i e; blk_point [iblk, V, idx t, offs t])
    | (intro i; blk_simp [iblk, V]; entry_read; pointwise; refine (row_cast _ _).trans ?_; blk_ext [idx t])
    | (intro i; blk_simp [iblk, V]; entry_read; pointwise; refine (bias_swap _ _).trans ?_; blk_ext [idx t])
    | blk_ext [idx t]

end Cert.Kernel5Ideal.RefValue

namespace Cert

/-- The odd layer's mixer over the extended reals: the kernel's result is the reference's. -/
theorem odd_mixer_equal : Cert.algebraic_Kernel5Ideal_Reference5Ideal := by
  pair_intro
  run_from Cert.Kernel5Ideal.Gen.run_main m g
  run_from Cert.Reference5Ideal.Value.run m' g'
  obtain ⟨e0, e1, e2, e3, e4, e5⟩ := hagree c
  rw [Cert.Reference5Ideal.Read.val_main_v104_eq, e0, e1, e2, e3, e4, e5]
  exact (Cert.Kernel5Ideal.RefValue.final m c).symm

end Cert

end
-- ==== Proof.Modulation.lean ====
/- The modulation vectors of all layers: what every grid point writes is the reference's value there. -/
module

public import proofs.«01_k».proof.Defs
public import proofs.«01_k».proof.Proof.Gen.Kernel6Ideal.Frame
public import proofs.«01_k».proof.Proof.Gen.Reference6Ideal.Read
public import Idealize.ShloMosaic.Lib.Pipeline.ValueKit
public import Idealize.ShloMosaic.Lib.Pointwise
public import Idealize.ShloMosaic.Lib.Claim
public import proofs.«01_k».proof.Proof.Softmax

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.RefValue

open Cert.Kernel6Ideal Cert.Kernel6Ideal.Gen
open Cert.Reference6Ideal.Read

variable (m : (ℓ : Loc nD τ sig) → Buf (Elt Ideal) ℓ)

/-- The windows' block indices at every grid point: six column blocks per layer. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 24 :=
  (by decide +kernel : ∀ t : Fin grid0.N, _)

/-- The result's array after the run is the reference's result. -/
theorem final_3 (c : Dev nD) : (dats m 0 c).arrAt 3 (cfgs 0).N
    = val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  have ht := (idx t).2.2.2.2
  obtain ⟨o, r, q, rfl⟩ : ∃ (o : Fin 1) (r : Fin 8) (q : Fin 1024), y = ix3 o r q := ⟨y 0, y 1, y 2, eq_ix3 y⟩
  obtain rfl : o = 0 := Subsingleton.elim _ _
  blk_simp
  rw [after0_3]
  frame_out
  pointwise [k0_pay1]
  have e : ((View.whole main_v1).slice (win0_3.rect t)).emb (ix3 0 r q)
      = ix3 ⟨t.val / 6, by omega⟩ r ⟨t.val % 6 * 1024 + q.val, by omega⟩ := by
    blk_ext [idx t]
  rw [e]
  simp only [Cert.Softmax.silu_eq]
  pointwise [val_main_v5, val_main_v4, val_main_v3, val_main_v2, val_main_v1, val_main_v0, val_main_call0_v5,
    val_main_call0_v4, val_main_call0_v3, val_main_call0_v2, val_main_call0_v1, val_main_call0_v0,
    val_main_call0_cst, val_main_call0_cst_0]
  refine congrArg₂ (· + ·) (Finset.sum_congr rfl fun k _ => (mul_comm _ _).trans ?_) ?_
  all_goals blk_point [iblk, V, idx t]

end Cert.Kernel6Ideal.RefValue

namespace Cert

/-- The modulation over the extended reals: the kernel's result is the reference's. -/
theorem modulation_equal : Cert.algebraic_Kernel6Ideal_Reference6Ideal := by
  pair_intro
  · run_from Cert.Kernel6Ideal.Gen.run_main m g
  · run_from Cert.Reference6Ideal.Value.run m' g'
    exact (Cert.Kernel6Ideal.RefValue.final_3 m c).symm

end Cert
-- ==== Proof.OutProjLatent.lean ====
/- The last layer's output projection of the latent tokens, from a mixer output in one part, each batch with a gate of its
   own: what every grid point writes is the reference's value there. -/
module

public import proofs.«01_k».proof.Defs
public import proofs.«01_k».proof.Proof.Gen.Kernel7Ideal.Frame
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.RefValue

open Cert.Kernel7Ideal Cert.Kernel7Ideal.Gen
open Cert.Reference7Ideal.Read

variable (m : (ℓ : Loc nD τ sig) → Buf (Elt Ideal) ℓ)

/-- The windows' block indices at every grid point: row blocks go with the point, the gate with its batch of four points,
    the last layer's weights stay put. -/
theorem idx : ∀ t : Fin cfg0.N, win0_0.index t = ![t.val, 0] ∧ win0_1.index t = ![3, 0, 0]
    ∧ win0_2.index t = ![t.val, 0] ∧ win0_3.index t = ![3, t.val / 4, 0, 0]
    ∧ win0_4.index t = ![3, 0, 0] ∧ win0_5.index t = ![t.val, 0] ∧ t.val < 8 :=
  (by decide +kernel : ∀ t : Fin grid0.N, _)

/-- The product of the mixer's output with the weights, as the reference has it. -/
abbrev projected (c : Dev nD) := val_main_v8 (F := Ideal) (m ((c : Thread nD τ).loc main_arg0))
  (m ((c : Thread nD τ).loc main_arg4))

/-- An entry of a point's product: the reference's product at the block's row. -/
theorem entry_at (c : Dev nD) (t : Fin cfg0.N) (r : Fin 512) (q : Fin 2048) (R : Fin 4096)
    (hR : R.val = t.val * 512 + r.val) :
    ∑ k : Fin 2048, (show FVec Ideal S512x2048 .bf16 from iblk m c 0 t) (ix2 r k)
        * (show FVec Ideal S1x2048x2048 .bf16 from iblk m c 1 t) (ix3 0 k q)
      = projected m c (ix2 R q) := by
  pointwise [projected, val_main_v8, val_main_v7, val_main_v6, val_main_v5]
  blk_point [iblk, V, idx t]

/-- The result's array after the run is the reference's result. -/
theorem final_5 (c : Dev nD) : (dats m 0 c).arrAt 5 (cfgs 0).N
    = val_main_v29 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  have ht := (idx t).2.2.2.2.2.2
  obtain ⟨r, q, rfl⟩ : ∃ (r : Fin 512) (q : Fin 2048), y = ix2 r q := ⟨y 0, y 1, eq_ix2 y⟩
  blk_simp
  rw [after0_5]
  frame_out
  pointwise [k0_pay1]
  simp only [entry_at m c t _ _ ⟨t.val * 512 + r.val, by omega⟩ rfl]
  have e : ((View.whole main_v2).slice (win0_5.rect t)).emb (ix2 r q) = ix2 ⟨t.val * 512 + r.val, by omega⟩ q := by
    blk_ext [idx t]
  rw [e]
  pointwise [val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v4, val_main_v1,
    val_main_v0, val_main_cst, val_main_cst_0, val_main_cst_1]
  blk_point [iblk, V, idx t]

end Cert.Kernel7Ideal.RefValue

namespace Cert

/-- The latent tokens' last output projection over the extended reals: the kernel's result is the reference's. -/
theorem outproj_latent_equal : Cert.algebraic_Kernel7Ideal_Reference7Ideal := by
  pair_intro
  · run_from Cert.Kernel7Ideal.Gen.run_main m g
  · run_from Cert.Reference7Ideal.Value.run m' g'
    exact (Cert.Kernel7Ideal.RefValue.final_5 m c).symm

end Cert
-- ==== Proof.LatentFourierReference.lean ====
/- The latent tokens' Fourier mixing in the reference, read at an index: its gate and the two mixed parts. -/
module

public import proofs.«01_k».proof.Proof.Gen.Reference8Ideal.Read
public import proofs.«01_k».proof.Proof.Softmax
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference8Ideal.RefValue

open Cert.Reference8Ideal Cert.Reference8Ideal.Gen
open Cert.Reference8Ideal.Read

variable (x0 : FVec Ideal S4096x5120 .bf16) (x1 x2 : FVec Ideal S128x128 .f32)
  (x3 x4 : FVec Ideal S2048x2048 .f32) (B : Fin 2) (s : Fin 2048)

/-- The gate, as the kernel spells the logistic product. -/
theorem gate_at (q : Fin 512) : val_main_v8 (F := Ideal) x0 (ix3 B s q)
    = Ideal.div (x0 (ix2 ⟨B.val * 2048 + s.val, by omega⟩ ⟨4608 + q.val, by omega⟩))
        (1 + Ideal.exp (0 - x0 (ix2 ⟨B.val * 2048 + s.val, by omega⟩ ⟨4608 + q.val, by omega⟩))) := by
  rw [Cert.Softmax.silu_eq]
  pointwise [val_main_v8, val_main_call0_v5, val_main_call0_v4, val_main_call0_v3, val_main_call0_v2,
    val_main_call0_v1, val_main_call0_v0, val_main_call0_cst, val_main_call0_cst_0, val_main_v7, val_main_v1, val_main_v0]

/-- The mixing: the real part's tokens mixed by cosines plus the negated imaginary part's mixed by sines. -/
theorem mixing_at (q : Fin 512) : val_main_v18 (F := Ideal) x0 x1 x2 x3 x4 (ix3 B s q)
    = ∑ x : Fin 2048, (∑ e : Fin 128, x0 (ix2 ⟨B.val * 2048 + x.val, by omega⟩ ⟨4096 + (q.val / 128 * 128 + e.val), by omega⟩)
          * x1 (ix2 e ⟨q.val % 128, by omega⟩)) * x3 (ix2 s x)
      + ∑ x : Fin 2048, (-∑ e : Fin 128, x0 (ix2 ⟨B.val * 2048 + x.val, by omega⟩ ⟨4096 + (q.val / 128 * 128 + e.val), by omega⟩)
          * x2 (ix2 e ⟨q.val % 128, by omega⟩)) * x4 (ix2 s x) := by
  pointwise [val_main_v18, val_main_v17, val_main_v16, val_main_v15, val_main_v14, val_main_v13, val_main_v12,
    val_main_v11, val_main_v10, val_main_v9, val_main_v6, val_main_v1, val_main_v0]

/-- The result is the gated mixing. -/
theorem result_at (q : Fin 512) :
    val_main_v21 (F := Ideal) x0 x1 x2 x3 x4 (ix2 ⟨B.val * 2048 + s.val, by omega⟩ q)
      = val_main_v8 (F := Ideal) x0 (ix3 B s q) * val_main_v18 (F := Ideal) x0 x1 x2 x3 x4 (ix3 B s q) := by
  have e : val_main_v21 (F := Ideal) x0 x1 x2 x3 x4 (ix2 ⟨B.val * 2048 + s.val, by omega⟩ q)
      = val_main_v20 (F := Ideal) x0 x1 x2 x3 x4 (ix3 B s q) := by
    pointwise [val_main_v21]
  rw [e]
  rfl

end Cert.Reference8Ideal.RefValue

end
-- ==== Proof.LatentFourier.lean ====
/- The latent tokens' Fourier mixing: the transformed tokens kept between the points of a batch, and what every grid point
   writes, against the reference's value there. -/
module

public import proofs.«01_k».proof.Defs
public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim
public import proofs.«01_k».proof.Proof.LatentFourierReference

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.RefValue

open Cert.Kernel8Ideal Cert.Kernel8Ideal.Gen
open Cert.Reference8Ideal.Read Cert.Reference8Ideal.RefValue

variable (m : (ℓ : Loc nD τ sig) → Buf (Elt Ideal) ℓ)

/-- The windows' block indices at every grid point: four points share a batch's tokens. -/
theorem idx : ∀ t : Fin cfg0.N, win0_0.index t = ![t.val / 4, 8] ∧ win0_1.index t = ![t.val, 9]
    ∧ win0_2.index t = ![0, 0] ∧ win0_3.index t = ![t.val % 4, 0] ∧ win0_4.index t = ![t.val, 0] ∧ t.val < 8 :=
  (by decide +kernel : ∀ t : Fin grid0.N, _)

/-- The projection the tokens and the gate are columns of. -/
abbrev projection (c : Dev nD) : FVec Ideal S4096x5120 .bf16 := m ((c : Thread nD τ).loc main_arg0)
/-- The channel cosines. -/
abbrev channelCos (c : Dev nD) : FVec Ideal S128x128 .f32 := m ((c : Thread nD τ).loc main_arg1)
/-- The channel sines. -/
abbrev channelSin (c : Dev nD) : FVec Ideal S128x128 .f32 := m ((c : Thread nD τ).loc main_arg2)
/-- The token cosines. -/
abbrev tokenCos (c : Dev nD) : FVec Ideal S2048x2048 .f32 := m ((c : Thread nD τ).loc main_arg3)
/-- The token sines. -/
abbrev tokenSin (c : Dev nD) : FVec Ideal S2048x2048 .f32 := m ((c : Thread nD τ).loc main_arg4)

/-- A batch's tokens with the channels of every 128-column group transformed by the columns `o …` of the table `d`. -/
abbrev transformed (d : FVec Ideal S128x256 .bf16) (u : FVec Ideal S2048x512 .bf16) (o : Fin 2) (x : Fin 2048) (q : Fin 512) :
    EReal := ∑ e : Fin 128, u (ix2 x ⟨q.val / 128 * 128 + e.val, by omega⟩) * d (ix2 e ⟨o.val * 128 + q.val % 128, by omega⟩)

section Transform

variable (d : FVec Ideal S128x256 .bf16) (u : FVec Ideal S2048x512 .bf16) (u0 u1 u2 u3 : FVec Ideal S2048x128 .bf16)
  (h0 : ∀ x e, u0 (ix2 x e) = u (ix2 x ⟨e.val, by omega⟩)) (h1 : ∀ x e, u1 (ix2 x e) = u (ix2 x ⟨128 + e.val, by omega⟩))
  (h2 : ∀ x e, u2 (ix2 x e) = u (ix2 x ⟨256 + e.val, by omega⟩)) (h3 : ∀ x e, u3 (ix2 x e) = u (ix2 x ⟨384 + e.val, by omega⟩))

include h0 h1 h2 h3

/-- The first half kept: the tokens transformed by the table's first 128 columns. -/
theorem first_half_at (x : Fin 2048) (q : Fin 512) : k0_pay6 (F := Ideal) d u0 u1 u2 u3 (ix2 x q) = transformed d u 0 x q := by
  pointwise [k0_pay6, k0_pay5, k0_pay4, k0_pay3, k0_pay2, k0_pay1]
  simp only [h0, h1, h2, h3]
  split_ifs with c0 c1 c2 <;>
  refine Finset.sum_congr rfl fun e _ => congrArg₂ (· * ·) (congrArg u (congrArg₂ ix2 rfl (Fin.ext ?_)))
    (congrArg d (congrArg₂ ix2 rfl (Fin.ext ?_))) <;>
  simp only [Fin.val_zero] <;> omega

/-- The second half kept: the tokens transformed by the table's last 128 columns. -/
theorem second_half_at (x : Fin 2048) (q : Fin 512) : k0_pay7 (F := Ideal) d u0 u1 u2 u3 (ix2 x q) = transformed d u 1 x q := by
  pointwise [k0_pay7, k0_pay5, k0_pay4, k0_pay3, k0_pay2, k0_pay1]
  simp only [h0, h1, h2, h3]
  split_ifs with c0 c1 c2 <;>
  refine Finset.sum_congr rfl fun e _ => congrArg₂ (· * ·) (congrArg u (congrArg₂ ix2 rfl (Fin.ext ?_)))
    (congrArg d (congrArg₂ ix2 rfl (Fin.ext ?_))) <;>
  simp only [Fin.val_one] <;> omega

end Transform

/-- What a point writes: the gate times the product of its rows of the token table with the tokens kept. -/
theorem written_at (w : FVec Ideal S512x4096 .bf16) (z : FVec Ideal S4096x512 .bf16) (g : FVec Ideal S512x512 .bf16)
    (r : Fin 512) (q : Fin 512) : k0_pay8 (F := Ideal) w z g (ix2 r q)
      = Ideal.div (g (ix2 r q)) (1 + Ideal.exp (0 - g (ix2 r q)))
        * (∑ x : Fin 2048, w (ix2 r ⟨x.val, by omega⟩) * z (ix2 ⟨x.val, by omega⟩ q)
          + ∑ x : Fin 2048, w (ix2 r ⟨2048 + x.val, by omega⟩) * z (ix2 ⟨2048 + x.val, by omega⟩ q)) := by
  have e : k0_pay8 (F := Ideal) w z g (ix2 r q)
      = Ideal.div (g (ix2 r q)) (1 + Ideal.exp (0 - g (ix2 r q))) * ∑ k : Fin 4096, w (ix2 r k) * z (ix2 k q) := by
    pointwise [k0_pay8]
  rw [e]
  exact congrArg _ (Fin.sum_univ_add (a := 2048) (b := 2048) fun k => w (ix2 r k) * z (ix2 k q))

/-- The blocks of the transform's tables: the channel cosines beside the channel sines, and the token cosines beside the
    negated token sines. -/
theorem tables (c : Dev nD) (t : Fin cfg0.N) :
    (∀ (e j : Fin 128), (show FVec Ideal S128x256 .bf16 from iblk m c 2 t) (ix2 e ⟨j.val, by omega⟩) = channelCos m c (ix2 e j))
    ∧ (∀ (e j : Fin 128), (show FVec Ideal S128x256 .bf16 from iblk m c 2 t) (ix2 e ⟨128 + j.val, by omega⟩)
      = channelSin m c (ix2 e j))
    ∧ (∀ (s : Fin 512) (x : Fin 2048), (show FVec Ideal S512x4096 .bf16 from iblk m c 3 t) (ix2 s ⟨x.val, by omega⟩)
      = tokenCos m c (ix2 ⟨t.val % 4 * 512 + s.val, by omega⟩ x))
    ∧ (∀ (s : Fin 512) (x : Fin 2048), (show FVec Ideal S512x4096 .bf16 from iblk m c 3 t) (ix2 s ⟨2048 + x.val, by omega⟩)
      = -tokenSin m c (ix2 ⟨t.val % 4 * 512 + s.val, by omega⟩ x)) := by
  refine ⟨fun e j => ?_, fun e j => ?_, fun e j => ?_, fun e j => ?_⟩ <;> blk_simp [iblk, V] <;> entry_read <;> pointwise
  · refine (dif_pos ?_).trans ?_
    · blk_simp [idx t]
      exact j.isLt
    · blk_ext [idx t]
  · refine (dif_neg ?_).trans ?_
    · blk_simp [idx t]
      exact not_lt.mpr (Nat.le_add_right 128 j.val)
    · blk_ext [idx t]
  · refine (dif_pos ?_).trans ?_
    · blk_simp [idx t]
      exact j.isLt
    · blk_ext [idx t]
  · refine (dif_neg ?_).trans (congrArg (- ·) ?_)
    · blk_simp [idx t]
      exact not_lt.mpr (Nat.le_add_right 2048 j.val)
    · blk_ext [idx t]

/-- A 128-column group of a batch's tokens as the kernel loads it. -/
theorem group_at (u : FVec Ideal S2048x512 .bf16) (o : ℕ) (inb) (i : Fin 2048) (e : Fin 128) (E : Fin 512)
    (hE : E.val = o + e.val) :
    View.ld (Val := Elt Ideal) (e' := .bf16) u (Rect.unit (s := S2048x512) ![0, o] ![2048, 128] inb) (ix2 i e) = u (ix2 i E) := by
  refine View.ld_unit_apply_of (Val := Elt Ideal) (e := .bf16) u _ _ inb _ _ fun a => ?_
  match a with
  | ⟨0, _⟩ => exact (Nat.zero_add _).symm
  | ⟨1, _⟩ => exact hE

/-- What a batch's first point keeps: the batch's tokens, transformed by the channel cosines and then by the sines. -/
theorem kept_first (c : Dev nD) (t : Fin cfg0.N) (h : t.val % 4 = 0) (o : Fin 2) (x : Fin 2048) (q : Fin 512) :
    (outsAt0 m c t.val t.isLt).2 (ix2 ⟨o.val * 2048 + x.val, by omega⟩ q)
      = transformed (iblk m c 2 t) (iblk m c 0 t) o x q := by
  rw [outsAt0_A m c t h]
  frame_out
  canon_tiles y hy using View.cover_of_tiledBy _ ![2048, 512] (by sl_kernel_rfl) _
  all_goals
    obtain ⟨a, b, rfl⟩ : ∃ (a : Fin 2048) (b : Fin 512), y = ix2 a b := ⟨y 0, y 1, eq_ix2 y⟩
  · refine (second_half_at _ (iblk m c 0 t) _ _ _ _ ?_ ?_ ?_ ?_ a b).trans ?_
    on_goal 5 =>
      have ho : o = 1 := Fin.ext (by have : o.val * 2048 + x.val = 2048 + a.val := hy0; show o.val = 1; omega)
      subst ho
      rw [show a = x from Fin.ext (by have : 1 * 2048 + x.val = 2048 + a.val := hy0; omega), show b = q from Fin.ext hy1.symm]
    all_goals exact fun i e => group_at _ _ _ i e _ (by simp)
  · refine (first_half_at _ (iblk m c 0 t) _ _ _ _ ?_ ?_ ?_ ?_ a b).trans ?_
    on_goal 5 =>
      have ho : o = 0 := Fin.ext (by have : o.val * 2048 + x.val = a.val := hy0; show o.val = 0; omega)
      subst ho
      rw [show a = x from Fin.ext (by have : 0 * 2048 + x.val = a.val := hy0; omega), show b = q from Fin.ext hy1.symm]
    all_goals exact fun i e => group_at _ _ _ i e _ (by simp)

/-- The table of channel factors behind either half kept: cosines, then sines. -/
abbrev channels (c : Dev nD) : Fin 2 → FVec Ideal S128x128 .f32 := ![channelCos m c, channelSin m c]

/-- What a batch's first point keeps, from the arguments. -/
theorem kept_first_at (c : Dev nD) (t : Fin cfg0.N) (h : t.val % 4 = 0) (o : Fin 2) (x : Fin 2048) (q : Fin 512) :
    (outsAt0 m c t.val t.isLt).2 (ix2 ⟨o.val * 2048 + x.val, by omega⟩ q)
      = ∑ e : Fin 128, projection m c (ix2 ⟨t.val / 4 * 2048 + x.val, by have := (idx t).2.2.2.2.2; omega⟩
          ⟨4096 + (q.val / 128 * 128 + e.val), by omega⟩) * channels m c o (ix2 e ⟨q.val % 128, by omega⟩) := by
  refine (kept_first m c t h o x q).trans (Finset.sum_congr rfl fun e _ => congrArg₂ (· * ·) ?_ ?_)
  · blk_point [iblk, V, idx t]
  · match o with
    | ⟨0, _⟩ => exact (congrArg _ (congrArg₂ ix2 rfl (Fin.ext (by simp only []; omega)))).trans ((tables m c t).1 e ⟨q.val % 128, by omega⟩)
    | ⟨1, _⟩ => exact (congrArg _ (congrArg₂ ix2 rfl (Fin.ext (by simp only [Nat.one_mul])))).trans ((tables m c t).2.1 e ⟨q.val % 128, by omega⟩)

/-- What every point finds kept: its own batch's tokens, transformed by the channel cosines and then by the sines. -/
theorem kept_at (c : Dev nD) (o : Fin 2) (x : Fin 2048) (q : Fin 512) : ∀ (n : ℕ) (hn : n < cfg0.N),
    (outsAt0 m c n hn).2 (ix2 ⟨o.val * 2048 + x.val, by omega⟩ q)
      = ∑ e : Fin 128, projection m c (ix2 ⟨n / 4 * 2048 + x.val, by have := (idx ⟨n, hn⟩).2.2.2.2.2; simp only [] at this; omega⟩
          ⟨4096 + (q.val / 128 * 128 + e.val), by omega⟩) * channels m c o (ix2 e ⟨q.val % 128, by omega⟩) := by
  intro n
  induction n with
  | zero => exact fun hn => kept_first_at m c ⟨0, hn⟩ rfl o x q
  | succ n ih =>
    intro hn
    by_cases h : (n + 1) % 4 = 0
    · exact kept_first_at m c ⟨n + 1, hn⟩ h o x q
    · have e := congrArg Prod.snd (outsAt0_B m c ⟨n + 1, hn⟩ h)
      refine (congrFun e _).trans ((ih (Nat.lt_of_succ_lt hn)).trans ?_)
      refine Finset.sum_congr rfl fun e _ => congrArg (· * _) (congrArg _ (congrArg₂ ix2 (Fin.ext ?_) rfl))
      show n / 4 * 2048 + x.val = (n + 1) / 4 * 2048 + x.val
      omega

/-- A point's tile: its payload over its blocks and the tokens kept after it. -/
theorem tile_eq (c : Dev nD) (t : Fin cfg0.N) : (outsAt0 m c t.val t.isLt).1
    = k0_pay8 (F := Ideal) (iblk m c 3 t) (outsAt0 m c t.val t.isLt).2 (iblk m c 1 t) := by
  by_cases h : t.val % 4 = 0
  · rw [outsAt0_A m c t h]
    frame_out
    refine congrArg (fun z => k0_pay8 (F := Ideal) (iblk m c 3 t) z (iblk m c 1 t)) ?_
    refine (View.readCov_eq_canon_ld _ _ _ (View.cover_of_tiledBy _ ![2048, 512] (by sl_kernel_rfl))).trans ?_
    exact View.ld_unit_lit _ _ (by decide)
  · rw [outsAt0_B m c t h]
    frame_out
    refine congrArg (fun z => k0_pay8 (F := Ideal) (iblk m c 3 t) z (iblk m c 1 t)) ?_
    exact (Memref.isWhole_whole _).read_unread _

/-- The result's array after the run is the reference's result. -/
theorem final (c : Dev nD) : (dats m 0 c).arrAt 4 (cfgs 0).N
    = val_main_v21 (F := Ideal) (projection m c) (channelCos m c) (channelSin m c) (tokenCos m c) (tokenSin m c) := by
  refine (dats m 0 c).arrAt_eq_of_covers 4 _ (by decide +kernel) fun t _ y => ?_
  have ht := (idx t).2.2.2.2.2
  obtain ⟨r, q, rfl⟩ : ∃ (r : Fin 512) (q : Fin 512), y = ix2 r q := ⟨y 0, y 1, eq_ix2 y⟩
  blk_simp
  rw [after0_4, tile_eq]
  have e : ((View.whole main_v5).slice (win0_4.rect t)).emb (ix2 r q)
      = ix2 ⟨t.val / 4 * 2048 + (t.val % 4 * 512 + r.val), by omega⟩ q := by
    blk_ext [idx t]
  rw [e]
  refine Eq.trans ?_ (result_at (projection m c) (channelCos m c) (channelSin m c) (tokenCos m c) (tokenSin m c)
    ⟨t.val / 4, by omega⟩ ⟨t.val % 4 * 512 + r.val, by omega⟩ q).symm
  rw [gate_at, mixing_at]
  refine (written_at _ _ _ r q).trans ?_
  have hg : (show FVec Ideal S512x512 .bf16 from iblk m c 1 t) (ix2 r q)
      = projection m c (ix2 ⟨t.val / 4 * 2048 + (t.val % 4 * 512 + r.val), by omega⟩ ⟨4608 + q.val, by omega⟩) := by
    blk_point [iblk, V, idx t]
  refine congrArg₂ (· * ·) (congrArg (fun g => Ideal.div g (1 + Ideal.exp (0 - g))) hg)
    (congrArg₂ (· + ·) (Finset.sum_congr rfl fun x _ => ?_) (Finset.sum_congr rfl fun x _ => ?_))
  · have hz := kept_at m c 0 x q t.val t.isLt
    refine (congrArg₂ (· * ·) ((tables m c t).2.2.1 r x) ((congrArg _ (congrArg₂ ix2 (Fin.ext ?_) rfl)).trans hz)).trans (mul_comm _ _)
    show x.val = 0 * 2048 + x.val
    omega
  · have hz := kept_at m c 1 x q t.val t.isLt
    refine (congrArg₂ (· * ·) ((tables m c t).2.2.2 r x) ((congrArg _ (congrArg₂ ix2 (Fin.ext ?_) rfl)).trans hz)).trans ?_
    · show 2048 + x.val = 1 * 2048 + x.val
      omega
    · rw [mul_comm, mul_neg, ← neg_mul]
      rfl

end Cert.Kernel8Ideal.RefValue

namespace Cert

/-- The latent tokens' Fourier mixing over the extended reals: the kernel's result is the reference's. -/
theorem latent_fourier_equal : Cert.algebraic_Kernel8Ideal_Reference8Ideal := by
  pair_intro
  · run_from Cert.Kernel8Ideal.Gen.run_main m g
  · run_from Cert.Reference8Ideal.Value.run m' g'
    exact (Cert.Kernel8Ideal.RefValue.final m c).symm

end Cert
-- ==== Proof.lean ====
/- The certificate: the frames, the preservation of each kernel under idealization, and the value claims. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Pre_finite
public import proofs.«01_k».proof.Proof.Frames
public import proofs.«01_k».proof.Proof.Attention
public import proofs.«01_k».proof.Proof.InProj
public import proofs.«01_k».proof.Proof.OutProj
public import proofs.«01_k».proof.Proof.OutProjLast
public import proofs.«01_k».proof.Proof.OddMixer
public import proofs.«01_k».proof.Proof.Modulation
public import proofs.«01_k».proof.Proof.OutProjLatent
public import proofs.«01_k».proof.Proof.LatentFourier

@[expose] public section

noncomputable section

namespace Cert.Proof

open Idealize.ShloMosaic Idealize.SL.Sem

/-- Every claim of the certificate, at the programs' own side conditions. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts,
    fun m g _ => Cert.Kernel.Gen.frame m g,
    fun m g _ => Cert.KernelIdeal.Gen.frame m g,
    fun m g _ => Cert.KernelIdeal.Gen.frame m g,
    Cert.attention_reference_frame,
    fun m g _ => Cert.attention_reference_frame m g trivial,
    fun m g _ => Cert.Kernel2.Gen.frame m g,
    fun m g _ => Cert.Kernel2Ideal.Gen.frame m g,
    Cert.inproj_reference_frame,
    fun m g _ => Cert.Kernel3.Gen.frame m g,
    fun m g _ => Cert.Kernel3Ideal.Gen.frame m g,
    Cert.outproj_reference_frame,
    fun m g _ => Cert.Kernel4.Gen.frame m g,
    fun m g _ => Cert.Kernel4Ideal.Gen.frame m g,
    Cert.outproj_last_reference_frame,
    fun m g _ => Cert.Kernel5.Gen.frame m g,
    fun m g _ => Cert.Kernel5Ideal.Gen.frame m g,
    Cert.odd_mixer_reference_frame,
    fun m g _ => Cert.Kernel6.Gen.frame m g,
    fun m g _ => Cert.Kernel6Ideal.Gen.frame m g,
    Cert.modulation_reference_frame,
    fun m g _ => Cert.Kernel7.Gen.frame m g,
    fun m g _ => Cert.Kernel7Ideal.Gen.frame m g,
    Cert.outproj_latent_reference_frame,
    fun m g _ => Cert.Kernel8.Gen.frame m g,
    fun m g _ => Cert.Kernel8Ideal.Gen.frame m g,
    Cert.latent_fourier_reference_frame,
    Cert.attention_preserved, Cert.attention_equal,
    trivial, Cert.inproj_equal,
    trivial, Cert.outproj_equal,
    trivial, Cert.outproj_last_equal,
    trivial, Cert.odd_mixer_equal,
    trivial, Cert.modulation_equal,
    trivial, Cert.outproj_latent_equal,
    trivial, Cert.latent_fourier_equal⟩

end Cert.Proof

end
